-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x1024 : Shape := ⟨2, ![128, 1024]⟩
abbrev S1024x1024 : Shape := ⟨2, ![1024, 1024]⟩
abbrev S896x384 : Shape := ⟨2, ![896, 384]⟩
abbrev S896x256 : Shape := ⟨2, ![896, 256]⟩
abbrev S3x4 : Shape := ⟨2, ![3, 4]⟩
abbrev S3x14 : Shape := ⟨2, ![3, 14]⟩
abbrev S_ : Shape := ⟨0, ![]⟩
abbrev S128x384 : Shape := ⟨2, ![128, 384]⟩
abbrev S1024x384 : Shape := ⟨2, ![1024, 384]⟩
abbrev S1x1 : Shape := ⟨2, ![1, 1]⟩
abbrev S128x256 : Shape := ⟨2, ![128, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S1024x128, .f32⟩
  | .hbm, ⟨1, _⟩ => ⟨S128x1024, .f32⟩
  | .hbm, ⟨2, _⟩ => ⟨S1024x1024, .f32⟩
  | .local _ .vmem, ⟨0, _⟩ => ⟨S1024x128, .f32⟩
  | .local _ .vmem, ⟨1, _⟩ => ⟨S128x1024, .f32⟩
  | .local _ .vmem, ⟨2, _⟩ => ⟨S1024x1024, .f32⟩
  | .local _ .vmem, ⟨3, _⟩ => ⟨S896x384, .f32⟩
  | .local _ .vmem, ⟨4, _⟩ => ⟨S896x384, .f32⟩
  | .local _ .vmem, ⟨5, _⟩ => ⟨S896x256, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_19 : BitVec 32 := 1#32
  let v33 : BitVec 32 := Scalar.muli v17 c1_i32_19
  let v34 : BitVec 32 := Scalar.addi c0_i32_20 v33
  v34.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_22 : BitVec 32 := 1#32
  let v35 : BitVec 32 := Scalar.muli v24 c1_i32_22
  let v36 : BitVec 32 := Scalar.addi c0_i32_23 v35
  v36.toNat
def k0_dev3 (d0 : Dev nD) : Nat :=
  let c0_i32_26 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_25 : BitVec 32 := 1#32
  let v37 : BitVec 32 := Scalar.muli v31 c1_i32_25
  let v38 : BitVec 32 := Scalar.addi c0_i32_26 v37
  v38.toNat
def k0_off1 (d0 : Dev nD) : Fin 2 → Nat :=
  let c1_i32_27 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v40 : BitVec 32 := Scalar.subi c1_i32_27 v8
  let c512_i32_28 : BitVec 32 := 512#32
  let v41 : BitVec 32 := Scalar.muli v40 c512_i32_28
  let c1_i32_56 : BitVec 32 := 1#32
  let c4_i32 : BitVec 32 := 4#32
  let v3 : BitVec 32 := Scalar.divsi v2 c4_i32
  let v84 : BitVec 32 := Scalar.subi c1_i32_56 v3
  let c256_i32_57 : BitVec 32 := 256#32
  let v85 : BitVec 32 := Scalar.muli v84 c256_i32_57
  let v86 : BitVec 32 := Scalar.addi v41 v85
  let c1_i32_58 : BitVec 32 := 1#32
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v87 : BitVec 32 := Scalar.subi c1_i32_58 v10
  let c128_i32_59 : BitVec 32 := 128#32
  let v88 : BitVec 32 := Scalar.muli v87 c128_i32_59
  let v89 : BitVec 32 := Scalar.addi v86 v88
  let c0_i32_68 : BitVec 32 := 0#32
  ![v89.toNat, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_64 : BitVec 32 := 1#32
  let v90 : BitVec 32 := Scalar.muli v17 c1_i32_64
  let v91 : BitVec 32 := Scalar.addi c0_i32_65 v90
  v91.toNat
def k0_off2 (d0 : Dev nD) : Fin 2 → Nat :=
  let c1_i32_27 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v40 : BitVec 32 := Scalar.subi c1_i32_27 v8
  let c512_i32_28 : BitVec 32 := 512#32
  let v41 : BitVec 32 := Scalar.muli v40 c512_i32_28
  let c1_i32_69 : BitVec 32 := 1#32
  let c4_i32 : BitVec 32 := 4#32
  let v3 : BitVec 32 := Scalar.divsi v2 c4_i32
  let v98 : BitVec 32 := Scalar.subi c1_i32_69 v3
  let c256_i32_70 : BitVec 32 := 256#32
  let v99 : BitVec 32 := Scalar.muli v98 c256_i32_70
  let v100 : BitVec 32 := Scalar.addi v41 v99
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c128_i32_71 : BitVec 32 := 128#32
  let v101 : BitVec 32 := Scalar.muli v10 c128_i32_71
  let v102 : BitVec 32 := Scalar.addi v100 v101
  let c0_i32_80 : BitVec 32 := 0#32
  ![v102.toNat, 0]
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_76 : BitVec 32 := 1#32
  let v103 : BitVec 32 := Scalar.muli v17 c1_i32_76
  let v104 : BitVec 32 := Scalar.addi c0_i32_77 v103
  v104.toNat
def k0_off3 (d0 : Dev nD) : Fin 2 → Nat :=
  let c1_i32_27 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v40 : BitVec 32 := Scalar.subi c1_i32_27 v8
  let c512_i32_28 : BitVec 32 := 512#32
  let v41 : BitVec 32 := Scalar.muli v40 c512_i32_28
  let c4_i32 : BitVec 32 := 4#32
  let v3 : BitVec 32 := Scalar.divsi v2 c4_i32
  let c256_i32_81 : BitVec 32 := 256#32
  let v111 : BitVec 32 := Scalar.muli v3 c256_i32_81
  let v112 : BitVec 32 := Scalar.addi v41 v111
  let c1_i32_82 : BitVec 32 := 1#32
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v113 : BitVec 32 := Scalar.subi c1_i32_82 v10
  let c128_i32_83 : BitVec 32 := 128#32
  let v114 : BitVec 32 := Scalar.muli v113 c128_i32_83
  let v115 : BitVec 32 := Scalar.addi v112 v114
  let c0_i32_92 : BitVec 32 := 0#32
  ![v115.toNat, 0]
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_88 : BitVec 32 := 1#32
  let v116 : BitVec 32 := Scalar.muli v17 c1_i32_88
  let v117 : BitVec 32 := Scalar.addi c0_i32_89 v116
  v117.toNat
def k0_off4 (d0 : Dev nD) : Fin 2 → Nat :=
  let c1_i32_27 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v40 : BitVec 32 := Scalar.subi c1_i32_27 v8
  let c512_i32_28 : BitVec 32 := 512#32
  let v41 : BitVec 32 := Scalar.muli v40 c512_i32_28
  let c4_i32 : BitVec 32 := 4#32
  let v3 : BitVec 32 := Scalar.divsi v2 c4_i32
  let c256_i32_93 : BitVec 32 := 256#32
  let v124 : BitVec 32 := Scalar.muli v3 c256_i32_93
  let v125 : BitVec 32 := Scalar.addi v41 v124
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c128_i32_94 : BitVec 32 := 128#32
  let v126 : BitVec 32 := Scalar.muli v10 c128_i32_94
  let v127 : BitVec 32 := Scalar.addi v125 v126
  let c0_i32_102 : BitVec 32 := 0#32
  ![v127.toNat, 0]
def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_99 : BitVec 32 := 1#32
  let v128 : BitVec 32 := Scalar.muli v17 c1_i32_99
  let v129 : BitVec 32 := Scalar.addi c0_i32_100 v128
  v129.toNat
def k0_off5 (d0 : Dev nD) : Fin 2 → Nat :=
  let c1_i32_34 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v53 : BitVec 32 := Scalar.subi c1_i32_34 v10
  let c512_i32_35 : BitVec 32 := 512#32
  let v54 : BitVec 32 := Scalar.muli v53 c512_i32_35
  let c1_i32_109 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v142 : BitVec 32 := Scalar.subi c1_i32_109 v8
  let c256_i32_110 : BitVec 32 := 256#32
  let v143 : BitVec 32 := Scalar.muli v142 c256_i32_110
  let v144 : BitVec 32 := Scalar.addi v54 v143
  let c1_i32_111 : BitVec 32 := 1#32
  let c4_i32 : BitVec 32 := 4#32
  let v3 : BitVec 32 := Scalar.divsi v2 c4_i32
  let v145 : BitVec 32 := Scalar.subi c1_i32_111 v3
  let c128_i32_112 : BitVec 32 := 128#32
  let v146 : BitVec 32 := Scalar.muli v145 c128_i32_112
  let v147 : BitVec 32 := Scalar.addi v144 v146
  let c384_i32_121 : BitVec 32 := 384#32
  ![v147.toNat, 384]
def k0_dev8 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_117 : BitVec 32 := 1#32
  let v148 : BitVec 32 := Scalar.muli v24 c1_i32_117
  let v149 : BitVec 32 := Scalar.addi c0_i32_118 v148
  v149.toNat
def k0_off6 (d0 : Dev nD) : Fin 2 → Nat :=
  let c1_i32_34 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v53 : BitVec 32 := Scalar.subi c1_i32_34 v10
  let c512_i32_35 : BitVec 32 := 512#32
  let v54 : BitVec 32 := Scalar.muli v53 c512_i32_35
  let c1_i32_122 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v156 : BitVec 32 := Scalar.subi c1_i32_122 v8
  let c256_i32_123 : BitVec 32 := 256#32
  let v157 : BitVec 32 := Scalar.muli v156 c256_i32_123
  let v158 : BitVec 32 := Scalar.addi v54 v157
  let c4_i32 : BitVec 32 := 4#32
  let v3 : BitVec 32 := Scalar.divsi v2 c4_i32
  let c128_i32_124 : BitVec 32 := 128#32
  let v159 : BitVec 32 := Scalar.muli v3 c128_i32_124
  let v160 : BitVec 32 := Scalar.addi v158 v159
  let c384_i32_133 : BitVec 32 := 384#32
  ![v160.toNat, 384]
def k0_dev9 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_129 : BitVec 32 := 1#32
  let v161 : BitVec 32 := Scalar.muli v24 c1_i32_129
  let v162 : BitVec 32 := Scalar.addi c0_i32_130 v161
  v162.toNat
def k0_off7 (d0 : Dev nD) : Fin 2 → Nat :=
  let c1_i32_34 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v53 : BitVec 32 := Scalar.subi c1_i32_34 v10
  let c512_i32_35 : BitVec 32 := 512#32
  let v54 : BitVec 32 := Scalar.muli v53 c512_i32_35
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c256_i32_134 : BitVec 32 := 256#32
  let v169 : BitVec 32 := Scalar.muli v8 c256_i32_134
  let v170 : BitVec 32 := Scalar.addi v54 v169
  let c1_i32_135 : BitVec 32 := 1#32
  let c4_i32 : BitVec 32 := 4#32
  let v3 : BitVec 32 := Scalar.divsi v2 c4_i32
  let v171 : BitVec 32 := Scalar.subi c1_i32_135 v3
  let c128_i32_136 : BitVec 32 := 128#32
  let v172 : BitVec 32 := Scalar.muli v171 c128_i32_136
  let v173 : BitVec 32 := Scalar.addi v170 v172
  let c384_i32_145 : BitVec 32 := 384#32
  ![v173.toNat, 384]
def k0_dev10 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_141 : BitVec 32 := 1#32
  let v174 : BitVec 32 := Scalar.muli v24 c1_i32_141
  let v175 : BitVec 32 := Scalar.addi c0_i32_142 v174
  v175.toNat
def k0_off8 (d0 : Dev nD) : Fin 2 → Nat :=
  let c1_i32_34 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v53 : BitVec 32 := Scalar.subi c1_i32_34 v10
  let c512_i32_35 : BitVec 32 := 512#32
  let v54 : BitVec 32 := Scalar.muli v53 c512_i32_35
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c256_i32_146 : BitVec 32 := 256#32
  let v182 : BitVec 32 := Scalar.muli v8 c256_i32_146
  let v183 : BitVec 32 := Scalar.addi v54 v182
  let c4_i32 : BitVec 32 := 4#32
  let v3 : BitVec 32 := Scalar.divsi v2 c4_i32
  let c128_i32_147 : BitVec 32 := 128#32
  let v184 : BitVec 32 := Scalar.muli v3 c128_i32_147
  let v185 : BitVec 32 := Scalar.addi v183 v184
  let c384_i32_156 : BitVec 32 := 384#32
  ![v185.toNat, 384]
def k0_dev11 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_152 : BitVec 32 := 1#32
  let v186 : BitVec 32 := Scalar.muli v24 c1_i32_152
  let v187 : BitVec 32 := Scalar.addi c0_i32_153 v186
  v187.toNat
def k0_off9 (d0 : Dev nD) : Fin 2 → Nat :=
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v66 : BitVec 32 := Scalar.subi c1_i32_43 v3
  let c512_i32_44 : BitVec 32 := 512#32
  let v67 : BitVec 32 := Scalar.muli v66 c512_i32_44
  let c1_i32_163 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v200 : BitVec 32 := Scalar.subi c1_i32_163 v10
  let c256_i32_164 : BitVec 32 := 256#32
  let v201 : BitVec 32 := Scalar.muli v200 c256_i32_164
  let v202 : BitVec 32 := Scalar.addi v67 v201
  let c1_i32_165 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v203 : BitVec 32 := Scalar.subi c1_i32_165 v8
  let c128_i32_166 : BitVec 32 := 128#32
  let v204 : BitVec 32 := Scalar.muli v203 c128_i32_166
  let v205 : BitVec 32 := Scalar.addi v202 v204
  let c768_i32 : BitVec 32 := 768#32
  ![v205.toNat, 768]
def k0_dev12 (d0 : Dev nD) : Nat :=
  let c0_i32_172 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_171 : BitVec 32 := 1#32
  let v206 : BitVec 32 := Scalar.muli v31 c1_i32_171
  let v207 : BitVec 32 := Scalar.addi c0_i32_172 v206
  v207.toNat
def k0_off10 (d0 : Dev nD) : Fin 2 → Nat :=
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v66 : BitVec 32 := Scalar.subi c1_i32_43 v3
  let c512_i32_44 : BitVec 32 := 512#32
  let v67 : BitVec 32 := Scalar.muli v66 c512_i32_44
  let c1_i32_175 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v214 : BitVec 32 := Scalar.subi c1_i32_175 v10
  let c256_i32_176 : BitVec 32 := 256#32
  let v215 : BitVec 32 := Scalar.muli v214 c256_i32_176
  let v216 : BitVec 32 := Scalar.addi v67 v215
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_177 : BitVec 32 := 128#32
  let v217 : BitVec 32 := Scalar.muli v8 c128_i32_177
  let v218 : BitVec 32 := Scalar.addi v216 v217
  let c768_i32_186 : BitVec 32 := 768#32
  ![v218.toNat, 768]
def k0_dev13 (d0 : Dev nD) : Nat :=
  let c0_i32_183 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_182 : BitVec 32 := 1#32
  let v219 : BitVec 32 := Scalar.muli v31 c1_i32_182
  let v220 : BitVec 32 := Scalar.addi c0_i32_183 v219
  v220.toNat
def k0_off11 (d0 : Dev nD) : Fin 2 → Nat :=
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v66 : BitVec 32 := Scalar.subi c1_i32_43 v3
  let c512_i32_44 : BitVec 32 := 512#32
  let v67 : BitVec 32 := Scalar.muli v66 c512_i32_44
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c256_i32_187 : BitVec 32 := 256#32
  let v227 : BitVec 32 := Scalar.muli v10 c256_i32_187
  let v228 : BitVec 32 := Scalar.addi v67 v227
  let c1_i32_188 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v229 : BitVec 32 := Scalar.subi c1_i32_188 v8
  let c128_i32_189 : BitVec 32 := 128#32
  let v230 : BitVec 32 := Scalar.muli v229 c128_i32_189
  let v231 : BitVec 32 := Scalar.addi v228 v230
  let c768_i32_198 : BitVec 32 := 768#32
  ![v231.toNat, 768]
def k0_dev14 (d0 : Dev nD) : Nat :=
  let c0_i32_195 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_194 : BitVec 32 := 1#32
  let v232 : BitVec 32 := Scalar.muli v31 c1_i32_194
  let v233 : BitVec 32 := Scalar.addi c0_i32_195 v232
  v233.toNat
def k0_off12 (d0 : Dev nD) : Fin 2 → Nat :=
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v66 : BitVec 32 := Scalar.subi c1_i32_43 v3
  let c512_i32_44 : BitVec 32 := 512#32
  let v67 : BitVec 32 := Scalar.muli v66 c512_i32_44
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c256_i32_199 : BitVec 32 := 256#32
  let v240 : BitVec 32 := Scalar.muli v10 c256_i32_199
  let v241 : BitVec 32 := Scalar.addi v67 v240
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_200 : BitVec 32 := 128#32
  let v242 : BitVec 32 := Scalar.muli v8 c128_i32_200
  let v243 : BitVec 32 := Scalar.addi v241 v242
  let c768_i32_209 : BitVec 32 := 768#32
  ![v243.toNat, 768]
def k0_dev15 (d0 : Dev nD) : Nat :=
  let c0_i32_206 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_205 : BitVec 32 := 1#32
  let v244 : BitVec 32 := Scalar.muli v31 c1_i32_205
  let v245 : BitVec 32 := Scalar.addi c0_i32_206 v244
  v245.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c512_i32 : BitVec 32 := 512#32
  let v39 : BitVec 32 := Scalar.muli v8 c512_i32
  let c1_i32_219 : BitVec 32 := 1#32
  let c4_i32 : BitVec 32 := 4#32
  let v3 : BitVec 32 := Scalar.divsi v2 c4_i32
  let v258 : BitVec 32 := Scalar.subi c1_i32_219 v3
  let c256_i32_220 : BitVec 32 := 256#32
  let v259 : BitVec 32 := Scalar.muli v258 c256_i32_220
  let v260 : BitVec 32 := Scalar.addi v39 v259
  let c1_i32_221 : BitVec 32 := 1#32
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v261 : BitVec 32 := Scalar.subi c1_i32_221 v10
  let c128_i32_222 : BitVec 32 := 128#32
  let v262 : BitVec 32 := Scalar.muli v261 c128_i32_222
  let v263 : BitVec 32 := Scalar.addi v260 v262
  let v264 : Index := Scalar.indexCast v263
  let c0_223 : Index := 0#32
  ![v264.toNat, 0]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c512_i32 : BitVec 32 := 512#32
  let v39 : BitVec 32 := Scalar.muli v8 c512_i32
  let c1_i32_29 : BitVec 32 := 1#32
  let c4_i32 : BitVec 32 := 4#32
  let v3 : BitVec 32 := Scalar.divsi v2 c4_i32
  let v44 : BitVec 32 := Scalar.subi c1_i32_29 v3
  let c256_i32_30 : BitVec 32 := 256#32
  let v45 : BitVec 32 := Scalar.muli v44 c256_i32_30
  let v46 : BitVec 32 := Scalar.addi v39 v45
  let c1_i32_227 : BitVec 32 := 1#32
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v271 : BitVec 32 := Scalar.subi c1_i32_227 v10
  let c128_i32_228 : BitVec 32 := 128#32
  let v272 : BitVec 32 := Scalar.muli v271 c128_i32_228
  let v273 : BitVec 32 := Scalar.addi v46 v272
  let c0_i32_245 : BitVec 32 := 0#32
  ![v273.toNat, 0]
def k0_dev16 (d0 : Dev nD) : Nat :=
  let c0_i32_242 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_241 : BitVec 32 := 1#32
  let v278 : BitVec 32 := Scalar.muli v31 c1_i32_241
  let v279 : BitVec 32 := Scalar.addi c0_i32_242 v278
  v279.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c512_i32_33 : BitVec 32 := 512#32
  let v52 : BitVec 32 := Scalar.muli v10 c512_i32_33
  let c1_i32_255 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v292 : BitVec 32 := Scalar.subi c1_i32_255 v8
  let c256_i32_256 : BitVec 32 := 256#32
  let v293 : BitVec 32 := Scalar.muli v292 c256_i32_256
  let v294 : BitVec 32 := Scalar.addi v52 v293
  let c1_i32_257 : BitVec 32 := 1#32
  let c4_i32 : BitVec 32 := 4#32
  let v3 : BitVec 32 := Scalar.divsi v2 c4_i32
  let v295 : BitVec 32 := Scalar.subi c1_i32_257 v3
  let c128_i32_258 : BitVec 32 := 128#32
  let v296 : BitVec 32 := Scalar.muli v295 c128_i32_258
  let v297 : BitVec 32 := Scalar.addi v294 v296
  let v298 : Index := Scalar.indexCast v297
  let c384_259 : Index := 384#32
  ![v298.toNat, 384]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c512_i32_33 : BitVec 32 := 512#32
  let v52 : BitVec 32 := Scalar.muli v10 c512_i32_33
  let c1_i32_37 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v57 : BitVec 32 := Scalar.subi c1_i32_37 v8
  let c256_i32_38 : BitVec 32 := 256#32
  let v58 : BitVec 32 := Scalar.muli v57 c256_i32_38
  let v59 : BitVec 32 := Scalar.addi v52 v58
  let c1_i32_263 : BitVec 32 := 1#32
  let c4_i32 : BitVec 32 := 4#32
  let v3 : BitVec 32 := Scalar.divsi v2 c4_i32
  let v305 : BitVec 32 := Scalar.subi c1_i32_263 v3
  let c128_i32_264 : BitVec 32 := 128#32
  let v306 : BitVec 32 := Scalar.muli v305 c128_i32_264
  let v307 : BitVec 32 := Scalar.addi v59 v306
  let c384_i32_281 : BitVec 32 := 384#32
  ![v307.toNat, 384]
def k0_dev17 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_277 : BitVec 32 := 1#32
  let v312 : BitVec 32 := Scalar.muli v17 c1_i32_277
  let v313 : BitVec 32 := Scalar.addi c0_i32_278 v312
  v313.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c512_i32_42 : BitVec 32 := 512#32
  let v65 : BitVec 32 := Scalar.muli v3 c512_i32_42
  let c1_i32_291 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v326 : BitVec 32 := Scalar.subi c1_i32_291 v10
  let c256_i32_292 : BitVec 32 := 256#32
  let v327 : BitVec 32 := Scalar.muli v326 c256_i32_292
  let v328 : BitVec 32 := Scalar.addi v65 v327
  let c1_i32_293 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v329 : BitVec 32 := Scalar.subi c1_i32_293 v8
  let c128_i32_294 : BitVec 32 := 128#32
  let v330 : BitVec 32 := Scalar.muli v329 c128_i32_294
  let v331 : BitVec 32 := Scalar.addi v328 v330
  let v332 : Index := Scalar.indexCast v331
  let c768_295 : Index := 768#32
  ![v332.toNat, 768]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c512_i32_42 : BitVec 32 := 512#32
  let v65 : BitVec 32 := Scalar.muli v3 c512_i32_42
  let c1_i32_46 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v70 : BitVec 32 := Scalar.subi c1_i32_46 v10
  let c256_i32_47 : BitVec 32 := 256#32
  let v71 : BitVec 32 := Scalar.muli v70 c256_i32_47
  let v72 : BitVec 32 := Scalar.addi v65 v71
  let c1_i32_299 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v339 : BitVec 32 := Scalar.subi c1_i32_299 v8
  let c128_i32_300 : BitVec 32 := 128#32
  let v340 : BitVec 32 := Scalar.muli v339 c128_i32_300
  let v341 : BitVec 32 := Scalar.addi v72 v340
  let c768_i32_317 : BitVec 32 := 768#32
  ![v341.toNat, 768]
def k0_dev18 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_313 : BitVec 32 := 1#32
  let v346 : BitVec 32 := Scalar.muli v24 c1_i32_313
  let v347 : BitVec 32 := Scalar.addi c0_i32_314 v346
  v347.toNat
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c512_i32 : BitVec 32 := 512#32
  let v39 : BitVec 32 := Scalar.muli v8 c512_i32
  let c1_i32_327 : BitVec 32 := 1#32
  let c4_i32 : BitVec 32 := 4#32
  let v3 : BitVec 32 := Scalar.divsi v2 c4_i32
  let v360 : BitVec 32 := Scalar.subi c1_i32_327 v3
  let c256_i32_328 : BitVec 32 := 256#32
  let v361 : BitVec 32 := Scalar.muli v360 c256_i32_328
  let v362 : BitVec 32 := Scalar.addi v39 v361
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c128_i32_329 : BitVec 32 := 128#32
  let v363 : BitVec 32 := Scalar.muli v10 c128_i32_329
  let v364 : BitVec 32 := Scalar.addi v362 v363
  let v365 : Index := Scalar.indexCast v364
  let c0_330 : Index := 0#32
  ![v365.toNat, 0]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c512_i32 : BitVec 32 := 512#32
  let v39 : BitVec 32 := Scalar.muli v8 c512_i32
  let c1_i32_29 : BitVec 32 := 1#32
  let c4_i32 : BitVec 32 := 4#32
  let v3 : BitVec 32 := Scalar.divsi v2 c4_i32
  let v44 : BitVec 32 := Scalar.subi c1_i32_29 v3
  let c256_i32_30 : BitVec 32 := 256#32
  let v45 : BitVec 32 := Scalar.muli v44 c256_i32_30
  let v46 : BitVec 32 := Scalar.addi v39 v45
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c128_i32_333 : BitVec 32 := 128#32
  let v372 : BitVec 32 := Scalar.muli v10 c128_i32_333
  let v373 : BitVec 32 := Scalar.addi v46 v372
  let c0_i32_348 : BitVec 32 := 0#32
  ![v373.toNat, 0]
def k0_dev19 (d0 : Dev nD) : Nat :=
  let c0_i32_346 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_345 : BitVec 32 := 1#32
  let v378 : BitVec 32 := Scalar.muli v31 c1_i32_345
  let v379 : BitVec 32 := Scalar.addi c0_i32_346 v378
  v379.toNat
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c512_i32_33 : BitVec 32 := 512#32
  let v52 : BitVec 32 := Scalar.muli v10 c512_i32_33
  let c1_i32_358 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v392 : BitVec 32 := Scalar.subi c1_i32_358 v8
  let c256_i32_359 : BitVec 32 := 256#32
  let v393 : BitVec 32 := Scalar.muli v392 c256_i32_359
  let v394 : BitVec 32 := Scalar.addi v52 v393
  let c4_i32 : BitVec 32 := 4#32
  let v3 : BitVec 32 := Scalar.divsi v2 c4_i32
  let c128_i32_360 : BitVec 32 := 128#32
  let v395 : BitVec 32 := Scalar.muli v3 c128_i32_360
  let v396 : BitVec 32 := Scalar.addi v394 v395
  let v397 : Index := Scalar.indexCast v396
  let c384_361 : Index := 384#32
  ![v397.toNat, 384]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c512_i32_33 : BitVec 32 := 512#32
  let v52 : BitVec 32 := Scalar.muli v10 c512_i32_33
  let c1_i32_37 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v57 : BitVec 32 := Scalar.subi c1_i32_37 v8
  let c256_i32_38 : BitVec 32 := 256#32
  let v58 : BitVec 32 := Scalar.muli v57 c256_i32_38
  let v59 : BitVec 32 := Scalar.addi v52 v58
  let c4_i32 : BitVec 32 := 4#32
  let v3 : BitVec 32 := Scalar.divsi v2 c4_i32
  let c128_i32_365 : BitVec 32 := 128#32
  let v404 : BitVec 32 := Scalar.muli v3 c128_i32_365
  let v405 : BitVec 32 := Scalar.addi v59 v404
  let c384_i32_382 : BitVec 32 := 384#32
  ![v405.toNat, 384]
def k0_dev20 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_378 : BitVec 32 := 1#32
  let v410 : BitVec 32 := Scalar.muli v17 c1_i32_378
  let v411 : BitVec 32 := Scalar.addi c0_i32_379 v410
  v411.toNat
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c512_i32_42 : BitVec 32 := 512#32
  let v65 : BitVec 32 := Scalar.muli v3 c512_i32_42
  let c1_i32_392 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v424 : BitVec 32 := Scalar.subi c1_i32_392 v10
  let c256_i32_393 : BitVec 32 := 256#32
  let v425 : BitVec 32 := Scalar.muli v424 c256_i32_393
  let v426 : BitVec 32 := Scalar.addi v65 v425
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_394 : BitVec 32 := 128#32
  let v427 : BitVec 32 := Scalar.muli v8 c128_i32_394
  let v428 : BitVec 32 := Scalar.addi v426 v427
  let v429 : Index := Scalar.indexCast v428
  let c768_395 : Index := 768#32
  ![v429.toNat, 768]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c512_i32_42 : BitVec 32 := 512#32
  let v65 : BitVec 32 := Scalar.muli v3 c512_i32_42
  let c1_i32_46 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v70 : BitVec 32 := Scalar.subi c1_i32_46 v10
  let c256_i32_47 : BitVec 32 := 256#32
  let v71 : BitVec 32 := Scalar.muli v70 c256_i32_47
  let v72 : BitVec 32 := Scalar.addi v65 v71
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_399 : BitVec 32 := 128#32
  let v436 : BitVec 32 := Scalar.muli v8 c128_i32_399
  let v437 : BitVec 32 := Scalar.addi v72 v436
  let c768_i32_416 : BitVec 32 := 768#32
  ![v437.toNat, 768]
def k0_dev21 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_412 : BitVec 32 := 1#32
  let v442 : BitVec 32 := Scalar.muli v24 c1_i32_412
  let v443 : BitVec 32 := Scalar.addi c0_i32_413 v442
  v443.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c512_i32 : BitVec 32 := 512#32
  let v39 : BitVec 32 := Scalar.muli v8 c512_i32
  let c4_i32 : BitVec 32 := 4#32
  let v3 : BitVec 32 := Scalar.divsi v2 c4_i32
  let c256_i32_426 : BitVec 32 := 256#32
  let v456 : BitVec 32 := Scalar.muli v3 c256_i32_426
  let v457 : BitVec 32 := Scalar.addi v39 v456
  let c1_i32_427 : BitVec 32 := 1#32
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v458 : BitVec 32 := Scalar.subi c1_i32_427 v10
  let c128_i32_428 : BitVec 32 := 128#32
  let v459 : BitVec 32 := Scalar.muli v458 c128_i32_428
  let v460 : BitVec 32 := Scalar.addi v457 v459
  let v461 : Index := Scalar.indexCast v460
  let c0_429 : Index := 0#32
  ![v461.toNat, 0]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c512_i32_33 : BitVec 32 := 512#32
  let v52 : BitVec 32 := Scalar.muli v10 c512_i32_33
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c256_i32_441 : BitVec 32 := 256#32
  let v474 : BitVec 32 := Scalar.muli v8 c256_i32_441
  let v475 : BitVec 32 := Scalar.addi v52 v474
  let c1_i32_442 : BitVec 32 := 1#32
  let c4_i32 : BitVec 32 := 4#32
  let v3 : BitVec 32 := Scalar.divsi v2 c4_i32
  let v476 : BitVec 32 := Scalar.subi c1_i32_442 v3
  let c128_i32_443 : BitVec 32 := 128#32
  let v477 : BitVec 32 := Scalar.muli v476 c128_i32_443
  let v478 : BitVec 32 := Scalar.addi v475 v477
  let v479 : Index := Scalar.indexCast v478
  let c384_444 : Index := 384#32
  ![v479.toNat, 384]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c512_i32_42 : BitVec 32 := 512#32
  let v65 : BitVec 32 := Scalar.muli v3 c512_i32_42
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c256_i32_457 : BitVec 32 := 256#32
  let v492 : BitVec 32 := Scalar.muli v10 c256_i32_457
  let v493 : BitVec 32 := Scalar.addi v65 v492
  let c1_i32_458 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v494 : BitVec 32 := Scalar.subi c1_i32_458 v8
  let c128_i32_459 : BitVec 32 := 128#32
  let v495 : BitVec 32 := Scalar.muli v494 c128_i32_459
  let v496 : BitVec 32 := Scalar.addi v493 v495
  let v497 : Index := Scalar.indexCast v496
  let c768_460 : Index := 768#32
  ![v497.toNat, 768]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c512_i32 : BitVec 32 := 512#32
  let v39 : BitVec 32 := Scalar.muli v8 c512_i32
  let c4_i32 : BitVec 32 := 4#32
  let v3 : BitVec 32 := Scalar.divsi v2 c4_i32
  let c256_i32 : BitVec 32 := 256#32
  let v42 : BitVec 32 := Scalar.muli v3 c256_i32
  let v43 : BitVec 32 := Scalar.addi v39 v42
  let c1_i32_478 : BitVec 32 := 1#32
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v520 : BitVec 32 := Scalar.subi c1_i32_478 v10
  let c128_i32_479 : BitVec 32 := 128#32
  let v521 : BitVec 32 := Scalar.muli v520 c128_i32_479
  let v522 : BitVec 32 := Scalar.addi v43 v521
  let c0_i32_495 : BitVec 32 := 0#32
  ![v522.toNat, 0]
def k0_dev22 (d0 : Dev nD) : Nat :=
  let c0_i32_492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_491 : BitVec 32 := 1#32
  let v527 : BitVec 32 := Scalar.muli v24 c1_i32_491
  let v528 : BitVec 32 := Scalar.addi c0_i32_492 v527
  v528.toNat
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c512_i32_33 : BitVec 32 := 512#32
  let v52 : BitVec 32 := Scalar.muli v10 c512_i32_33
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c256_i32_36 : BitVec 32 := 256#32
  let v55 : BitVec 32 := Scalar.muli v8 c256_i32_36
  let v56 : BitVec 32 := Scalar.addi v52 v55
  let c1_i32_511 : BitVec 32 := 1#32
  let c4_i32 : BitVec 32 := 4#32
  let v3 : BitVec 32 := Scalar.divsi v2 c4_i32
  let v551 : BitVec 32 := Scalar.subi c1_i32_511 v3
  let c128_i32_512 : BitVec 32 := 128#32
  let v552 : BitVec 32 := Scalar.muli v551 c128_i32_512
  let v553 : BitVec 32 := Scalar.addi v56 v552
  let c384_i32_529 : BitVec 32 := 384#32
  ![v553.toNat, 384]
def k0_dev23 (d0 : Dev nD) : Nat :=
  let c0_i32_526 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_525 : BitVec 32 := 1#32
  let v558 : BitVec 32 := Scalar.muli v31 c1_i32_525
  let v559 : BitVec 32 := Scalar.addi c0_i32_526 v558
  v559.toNat
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c512_i32_42 : BitVec 32 := 512#32
  let v65 : BitVec 32 := Scalar.muli v3 c512_i32_42
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c256_i32_45 : BitVec 32 := 256#32
  let v68 : BitVec 32 := Scalar.muli v10 c256_i32_45
  let v69 : BitVec 32 := Scalar.addi v65 v68
  let c1_i32_545 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v582 : BitVec 32 := Scalar.subi c1_i32_545 v8
  let c128_i32_546 : BitVec 32 := 128#32
  let v583 : BitVec 32 := Scalar.muli v582 c128_i32_546
  let v584 : BitVec 32 := Scalar.addi v69 v583
  let c768_i32_563 : BitVec 32 := 768#32
  ![v584.toNat, 768]
def k0_dev24 (d0 : Dev nD) : Nat :=
  let c0_i32_560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_559 : BitVec 32 := 1#32
  let v589 : BitVec 32 := Scalar.muli v17 c1_i32_559
  let v590 : BitVec 32 := Scalar.addi c0_i32_560 v589
  v590.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c512_i32 : BitVec 32 := 512#32
  let v39 : BitVec 32 := Scalar.muli v8 c512_i32
  let c4_i32 : BitVec 32 := 4#32
  let v3 : BitVec 32 := Scalar.divsi v2 c4_i32
  let c256_i32_573 : BitVec 32 := 256#32
  let v603 : BitVec 32 := Scalar.muli v3 c256_i32_573
  let v604 : BitVec 32 := Scalar.addi v39 v603
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c128_i32_574 : BitVec 32 := 128#32
  let v605 : BitVec 32 := Scalar.muli v10 c128_i32_574
  let v606 : BitVec 32 := Scalar.addi v604 v605
  let v607 : Index := Scalar.indexCast v606
  let c0_575 : Index := 0#32
  ![v607.toNat, 0]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c512_i32_33 : BitVec 32 := 512#32
  let v52 : BitVec 32 := Scalar.muli v10 c512_i32_33
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c256_i32_588 : BitVec 32 := 256#32
  let v620 : BitVec 32 := Scalar.muli v8 c256_i32_588
  let v621 : BitVec 32 := Scalar.addi v52 v620
  let c4_i32 : BitVec 32 := 4#32
  let v3 : BitVec 32 := Scalar.divsi v2 c4_i32
  let c128_i32_589 : BitVec 32 := 128#32
  let v622 : BitVec 32 := Scalar.muli v3 c128_i32_589
  let v623 : BitVec 32 := Scalar.addi v621 v622
  let v624 : Index := Scalar.indexCast v623
  let c384_590 : Index := 384#32
  ![v624.toNat, 384]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c512_i32_42 : BitVec 32 := 512#32
  let v65 : BitVec 32 := Scalar.muli v3 c512_i32_42
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c256_i32_603 : BitVec 32 := 256#32
  let v637 : BitVec 32 := Scalar.muli v10 c256_i32_603
  let v638 : BitVec 32 := Scalar.addi v65 v637
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_604 : BitVec 32 := 128#32
  let v639 : BitVec 32 := Scalar.muli v8 c128_i32_604
  let v640 : BitVec 32 := Scalar.addi v638 v639
  let v641 : Index := Scalar.indexCast v640
  let c768_605 : Index := 768#32
  ![v641.toNat, 768]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c512_i32 : BitVec 32 := 512#32
  let v39 : BitVec 32 := Scalar.muli v8 c512_i32
  let c4_i32 : BitVec 32 := 4#32
  let v3 : BitVec 32 := Scalar.divsi v2 c4_i32
  let c256_i32 : BitVec 32 := 256#32
  let v42 : BitVec 32 := Scalar.muli v3 c256_i32
  let v43 : BitVec 32 := Scalar.addi v39 v42
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c128_i32 : BitVec 32 := 128#32
  let v47 : BitVec 32 := Scalar.muli v10 c128_i32
  let v48 : BitVec 32 := Scalar.addi v43 v47
  let c0_i32_680 : BitVec 32 := 0#32
  ![v48.toNat, 0]
def k0_dev25 (d0 : Dev nD) : Nat :=
  let c0_i32_679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_678 : BitVec 32 := 1#32
  let v723 : BitVec 32 := Scalar.muli v24 c1_i32_678
  let v724 : BitVec 32 := Scalar.addi c0_i32_679 v723
  v724.toNat
def k0_dev26 (d0 : Dev nD) : Nat :=
  let c0_i32_695 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_694 : BitVec 32 := 1#32
  let v735 : BitVec 32 := Scalar.muli v31 c1_i32_694
  let v736 : BitVec 32 := Scalar.addi c0_i32_695 v735
  v736.toNat
def k0_dev27 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_709 : BitVec 32 := 1#32
  let v747 : BitVec 32 := Scalar.muli v17 c1_i32_709
  let v748 : BitVec 32 := Scalar.addi c0_i32_710 v747
  v748.toNat
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c512_i32_33 : BitVec 32 := 512#32
  let v52 : BitVec 32 := Scalar.muli v10 c512_i32_33
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c256_i32_36 : BitVec 32 := 256#32
  let v55 : BitVec 32 := Scalar.muli v8 c256_i32_36
  let v56 : BitVec 32 := Scalar.addi v52 v55
  let c4_i32 : BitVec 32 := 4#32
  let v3 : BitVec 32 := Scalar.divsi v2 c4_i32
  let c128_i32_39 : BitVec 32 := 128#32
  let v60 : BitVec 32 := Scalar.muli v3 c128_i32_39
  let v61 : BitVec 32 := Scalar.addi v56 v60
  let c384_i32_744 : BitVec 32 := 384#32
  ![v61.toNat, 384]
def k0_dev28 (d0 : Dev nD) : Nat :=
  let c0_i32_743 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_742 : BitVec 32 := 1#32
  let v785 : BitVec 32 := Scalar.muli v31 c1_i32_742
  let v786 : BitVec 32 := Scalar.addi c0_i32_743 v785
  v786.toNat
def k0_dev29 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_758 : BitVec 32 := 1#32
  let v797 : BitVec 32 := Scalar.muli v17 c1_i32_758
  let v798 : BitVec 32 := Scalar.addi c0_i32_759 v797
  v798.toNat
def k0_dev30 (d0 : Dev nD) : Nat :=
  let c0_i32_775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_774 : BitVec 32 := 1#32
  let v809 : BitVec 32 := Scalar.muli v24 c1_i32_774
  let v810 : BitVec 32 := Scalar.addi c0_i32_775 v809
  v810.toNat
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c512_i32_42 : BitVec 32 := 512#32
  let v65 : BitVec 32 := Scalar.muli v3 c512_i32_42
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let c256_i32_45 : BitVec 32 := 256#32
  let v68 : BitVec 32 := Scalar.muli v10 c256_i32_45
  let v69 : BitVec 32 := Scalar.addi v65 v68
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_48 : BitVec 32 := 128#32
  let v73 : BitVec 32 := Scalar.muli v8 c128_i32_48
  let v74 : BitVec 32 := Scalar.addi v69 v73
  let c768_i32_809 : BitVec 32 := 768#32
  ![v74.toNat, 768]
def k0_dev31 (d0 : Dev nD) : Nat :=
  let c0_i32_808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_807 : BitVec 32 := 1#32
  let v847 : BitVec 32 := Scalar.muli v17 c1_i32_807
  let v848 : BitVec 32 := Scalar.addi c0_i32_808 v847
  v848.toNat
def k0_dev32 (d0 : Dev nD) : Nat :=
  let c0_i32_824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_823 : BitVec 32 := 1#32
  let v859 : BitVec 32 := Scalar.muli v24 c1_i32_823
  let v860 : BitVec 32 := Scalar.addi c0_i32_824 v859
  v860.toNat
def k0_dev33 (d0 : Dev nD) : Nat :=
  let c0_i32_840 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_839 : BitVec 32 := 1#32
  let v871 : BitVec 32 := Scalar.muli v31 c1_i32_839
  let v872 : BitVec 32 := Scalar.addi c0_i32_840 v871
  v872.toNat
def k0_dev34 (d0 : Dev nD) : Nat :=
  let c0_i32_863 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_862 : BitVec 32 := 1#32
  let v889 : BitVec 32 := Scalar.muli v31 c1_i32_862
  let v890 : BitVec 32 := Scalar.addi c0_i32_863 v889
  v890.toNat
def k0_dev35 (d0 : Dev nD) : Nat :=
  let c0_i32_877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_876 : BitVec 32 := 1#32
  let v901 : BitVec 32 := Scalar.muli v17 c1_i32_876
  let v902 : BitVec 32 := Scalar.addi c0_i32_877 v901
  v902.toNat
def k0_dev36 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_900 : BitVec 32 := 1#32
  let v919 : BitVec 32 := Scalar.muli v17 c1_i32_900
  let v920 : BitVec 32 := Scalar.addi c0_i32_901 v919
  v920.toNat
def k0_dev37 (d0 : Dev nD) : Nat :=
  let c0_i32_916 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_915 : BitVec 32 := 1#32
  let v931 : BitVec 32 := Scalar.muli v24 c1_i32_915
  let v932 : BitVec 32 := Scalar.addi c0_i32_916 v931
  v932.toNat
def k0_dev38 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_939 : BitVec 32 := 1#32
  let v949 : BitVec 32 := Scalar.muli v24 c1_i32_939
  let v950 : BitVec 32 := Scalar.addi c0_i32_940 v949
  v950.toNat
def k0_dev39 (d0 : Dev nD) : Nat :=
  let c0_i32_955 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_954 : BitVec 32 := 1#32
  let v961 : BitVec 32 := Scalar.muli v31 c1_i32_954
  let v962 : BitVec 32 := Scalar.addi c0_i32_955 v961
  v962.toNat
def k0_dev40 (d0 : Dev nD) : Nat :=
  let c0_i32_980 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_979 : BitVec 32 := 1#32
  let v984 : BitVec 32 := Scalar.muli v17 c1_i32_979
  let v985 : BitVec 32 := Scalar.addi c0_i32_980 v984
  v985.toNat
def k0_dev41 (d0 : Dev nD) : Nat :=
  let c0_i32_1006 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_1005 : BitVec 32 := 1#32
  let v1007 : BitVec 32 := Scalar.muli v24 c1_i32_1005
  let v1008 : BitVec 32 := Scalar.addi c0_i32_1006 v1007
  v1008.toNat
def k0_dev42 (d0 : Dev nD) : Nat :=
  let c0_i32_1032 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_1031 : BitVec 32 := 1#32
  let v1030 : BitVec 32 := Scalar.muli v31 c1_i32_1031
  let v1031 : BitVec 32 := Scalar.addi c0_i32_1032 v1030
  v1031.toNat
def k0_dev43 (d0 : Dev nD) : Nat :=
  let c0_i32_1058 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_7 : BitVec 32 := 4#32
  let v12 : BitVec 32 := Scalar.muli v3 c4_i32_7
  let c2_i32_8 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v13 : BitVec 32 := Scalar.muli c2_i32_8 v10
  let v14 : BitVec 32 := Scalar.addi v12 v13
  let c1_i32_6 : BitVec 32 := 1#32
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v11 : BitVec 32 := Scalar.subi c1_i32_6 v8
  let v15 : BitVec 32 := Scalar.addi v11 v10
  let c2_i32_9 : BitVec 32 := 2#32
  let v16 : BitVec 32 := Scalar.remsi v15 c2_i32_9
  let v17 : BitVec 32 := Scalar.addi v14 v16
  let c1_i32_1057 : BitVec 32 := 1#32
  let v1054 : BitVec 32 := Scalar.muli v17 c1_i32_1057
  let v1055 : BitVec 32 := Scalar.addi c0_i32_1058 v1054
  v1055.toNat
def k0_dev44 (d0 : Dev nD) : Nat :=
  let c0_i32_1085 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_11 : BitVec 32 := 4#32
  let v19 : BitVec 32 := Scalar.muli v3 c4_i32_11
  let c2_i32_12 : BitVec 32 := 2#32
  let c1_i32_10 : BitVec 32 := 1#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v18 : BitVec 32 := Scalar.subi c1_i32_10 v10
  let v20 : BitVec 32 := Scalar.muli c2_i32_12 v18
  let v21 : BitVec 32 := Scalar.addi v19 v20
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v22 : BitVec 32 := Scalar.addi v8 v18
  let c2_i32_13 : BitVec 32 := 2#32
  let v23 : BitVec 32 := Scalar.remsi v22 c2_i32_13
  let v24 : BitVec 32 := Scalar.addi v21 v23
  let c1_i32_1084 : BitVec 32 := 1#32
  let v1078 : BitVec 32 := Scalar.muli v24 c1_i32_1084
  let v1079 : BitVec 32 := Scalar.addi c0_i32_1085 v1078
  v1079.toNat
def k0_dev45 (d0 : Dev nD) : Nat :=
  let c0_i32_1112 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v25 : BitVec 32 := Scalar.subi c1_i32_14 v3
  let c4_i32_15 : BitVec 32 := 4#32
  let v26 : BitVec 32 := Scalar.muli v25 c4_i32_15
  let c2_i32_16 : BitVec 32 := 2#32
  let c4_i32_0 : BitVec 32 := 4#32
  let v4 : BitVec 32 := Scalar.remsi v2 c4_i32_0
  let c2_i32_3 : BitVec 32 := 2#32
  let v9 : BitVec 1 := Scalar.cmpi .sge v4 c2_i32_3
  let c1_i32_4 : BitVec 32 := 1#32
  let c0_i32_5 : BitVec 32 := 0#32
  let v10 : BitVec 32 := Scalar.select v9 c1_i32_4 c0_i32_5
  let v27 : BitVec 32 := Scalar.muli c2_i32_16 v10
  let v28 : BitVec 32 := Scalar.addi v26 v27
  let c1_i32_1 : BitVec 32 := 1#32
  let v5 : BitVec 1 := Scalar.cmpi .eq v4 c1_i32_1
  let c2_i32 : BitVec 32 := 2#32
  let v6 : BitVec 1 := Scalar.cmpi .eq v4 c2_i32
  let v7 : BitVec 1 := Scalar.ori v5 v6
  let c1_i32_2 : BitVec 32 := 1#32
  let c0_i32 : BitVec 32 := 0#32
  let v8 : BitVec 32 := Scalar.select v7 c1_i32_2 c0_i32
  let v29 : BitVec 32 := Scalar.addi v8 v10
  let c2_i32_17 : BitVec 32 := 2#32
  let v30 : BitVec 32 := Scalar.remsi v29 c2_i32_17
  let v31 : BitVec 32 := Scalar.addi v28 v30
  let c1_i32_1111 : BitVec 32 := 1#32
  let v1102 : BitVec 32 := Scalar.muli v31 c1_i32_1111
  let v1103 : BitVec 32 := Scalar.addi c0_i32_1112 v1102
  v1103.toNat
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.AllReduce.Prog.lean ====
/-
# The all-reduce kernel's instruction stream

The printed body is one fixed sequence of about two hundred operations.  Every part of the columns
runs the same steps over its own tables: which block of rows a transfer takes, which device it goes
to, where it lands.  This file states the steps once, for every part and every transfer, and the
printed body as their sequence.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.AllReduceProof

open Cert.KernelIdeal Cert.KernelIdeal.Gen
open Idealize.ShloMosaic
open Idealize.SL.Sem

variable {F : FTy → Type} [FloatOps F]

/-- A program of the kernel's thread, over float values `F`. -/
abbrev PG (F : FTy → Type) := Prog (TpuEff nD τ sig (Elt F) Λ₀ .tc) PUnit

/-! ## Shapes and memrefs by part -/

/-- The number of columns of part `p`. -/
abbrev wd : Fin 3 → ℕ
  | 0 => 384
  | 1 => 384
  | 2 => 256

/-- The first column of part `p`. -/
abbrev col0 : Fin 3 → ℕ
  | 0 => 0
  | 1 => 384
  | 2 => 768

/-- The shapes of one block of rows of part `p`, of all its columns of the result, of its columns of
    the second factor and of its receive buffer. -/
abbrev T (p : Fin 3) : Shape := ⟨2, ![128, wd p]⟩
abbrev TC (p : Fin 3) : Shape := ⟨2, ![1024, wd p]⟩
abbrev TS (p : Fin 3) : Shape := ⟨2, ![896, wd p]⟩

/-- The three whole operands, on their staging buffers. -/
abbrev xM : Memref sig .tc .vmem S1024x128 .f32 := Memref.whole cc0_stg0_0
abbrev wM : Memref sig .tc .vmem S128x1024 .f32 := Memref.whole cc0_stg1_0
abbrev oM : Memref sig .tc .vmem S1024x1024 .f32 := Memref.whole cc0_stg2_0

/-- Part `p`'s receive buffer. -/
abbrev sM : (p : Fin 3) → Memref sig .tc .vmem (TS p) .f32
  | 0 => Memref.whole cc0_scratch0
  | 1 => Memref.whole cc0_scratch1
  | 2 => Memref.whole cc0_scratch2

/-! ## The tables: transfers are numbered as their receive semaphores are

0 to 3: a quarter of the rows, block by block, to the first partner; 4 and 5: two sums to the second;
6: one sum to the third; 7 to 13: finished blocks back, along the third (7), the second (8, 9) and the
first partner (10 to 13).  A block is named by the three bits in which it differs from the device's own. -/

/-- The block transfer `t` sends. -/
abbrev msk : Fin 14 → Fin 8 := ![7, 6, 5, 4, 3, 2, 1, 0, 0, 1, 0, 1, 2, 3]

/-- Which partner transfer `t` goes to. -/
abbrev stg : Fin 14 → Fin 3 := ![0, 0, 0, 0, 1, 1, 2, 2, 1, 1, 0, 0, 0, 0]

/-- The send semaphore transfer `t` counts its departure on, -/
abbrev sk : Fin 14 → Fin 4 := ![0, 1, 2, 3, 0, 1, 2, 3, 0, 2, 1, 3, 0, 1]

/-- and which of that semaphore's rounds it is. -/
abbrev rd : Fin 14 → ℕ := ![0, 0, 0, 0, 1, 1, 1, 1, 2, 2, 2, 2, 3, 3]

/-- The printed offset of the block a transfer of part `p` reads, by the block's bits. -/
def sOff : Fin 3 → Fin 8 → Dev nD → Fin 2 → ℕ
  | 0, 0 => k0_off34
  | 0, 1 => k0_off28
  | 0, 2 => k0_off20
  | 0, 3 => k0_off14
  | 0, 4 => k0_off4
  | 0, 5 => k0_off3
  | 0, 6 => k0_off2
  | 0, 7 => k0_off1
  | 1, 0 => k0_off35
  | 1, 1 => k0_off29
  | 1, 2 => k0_off22
  | 1, 3 => k0_off16
  | 1, 4 => k0_off8
  | 1, 5 => k0_off7
  | 1, 6 => k0_off6
  | 1, 7 => k0_off5
  | 2, 0 => k0_off36
  | 2, 1 => k0_off30
  | 2, 2 => k0_off24
  | 2, 3 => k0_off18
  | 2, 4 => k0_off12
  | 2, 5 => k0_off11
  | 2, 6 => k0_off10
  | 2, 7 => k0_off9

theorem sOff_inb : ∀ (p : Fin 3) (m : Fin 8) (d : Dev nD) (a : Fin 2), sOff p m d a + (T p).size a ≤ S1024x1024.size a
  | 0, 0 => k0_off34_inb
  | 0, 1 => k0_off28_inb
  | 0, 2 => k0_off20_inb
  | 0, 3 => k0_off14_inb
  | 0, 4 => k0_off4_inb
  | 0, 5 => k0_off3_inb
  | 0, 6 => k0_off2_inb
  | 0, 7 => k0_off1_inb
  | 1, 0 => k0_off35_inb
  | 1, 1 => k0_off29_inb
  | 1, 2 => k0_off22_inb
  | 1, 3 => k0_off16_inb
  | 1, 4 => k0_off8_inb
  | 1, 5 => k0_off7_inb
  | 1, 6 => k0_off6_inb
  | 1, 7 => k0_off5_inb
  | 2, 0 => k0_off36_inb
  | 2, 1 => k0_off30_inb
  | 2, 2 => k0_off24_inb
  | 2, 3 => k0_off18_inb
  | 2, 4 => k0_off12_inb
  | 2, 5 => k0_off11_inb
  | 2, 6 => k0_off10_inb
  | 2, 7 => k0_off9_inb

/-- The printed offset of the block an addition of part `p` updates, by the block's bits. -/
def aOff : Fin 3 → Fin 4 → Dev nD → Fin 2 → ℕ
  | 0, 0 => k0_off31
  | 0, 1 => k0_off25
  | 0, 2 => k0_off19
  | 0, 3 => k0_off13
  | 1, 0 => k0_off32
  | 1, 1 => k0_off26
  | 1, 2 => k0_off21
  | 1, 3 => k0_off15
  | 2, 0 => k0_off33
  | 2, 1 => k0_off27
  | 2, 2 => k0_off23
  | 2, 3 => k0_off17

theorem aOff_inb : ∀ (p : Fin 3) (m : Fin 4) (d : Dev nD) (a : Fin 2), aOff p m d a + (T p).size a ≤ S1024x1024.size a
  | 0, 0 => k0_off31_inb
  | 0, 1 => k0_off25_inb
  | 0, 2 => k0_off19_inb
  | 0, 3 => k0_off13_inb
  | 1, 0 => k0_off32_inb
  | 1, 1 => k0_off26_inb
  | 1, 2 => k0_off21_inb
  | 1, 3 => k0_off15_inb
  | 2, 0 => k0_off33_inb
  | 2, 1 => k0_off27_inb
  | 2, 2 => k0_off23_inb
  | 2, 3 => k0_off17_inb

/-- The printed destination of a transfer. -/
def devT : Fin 3 → Fin 14 → Dev nD → Dev nD
  | 0, 0 => fun d => ⟨k0_dev4 d, k0_dev4_lt d⟩
  | 0, 1 => fun d => ⟨k0_dev5 d, k0_dev5_lt d⟩
  | 0, 2 => fun d => ⟨k0_dev6 d, k0_dev6_lt d⟩
  | 0, 3 => fun d => ⟨k0_dev7 d, k0_dev7_lt d⟩
  | 0, 4 => fun d => ⟨k0_dev16 d, k0_dev16_lt d⟩
  | 0, 5 => fun d => ⟨k0_dev19 d, k0_dev19_lt d⟩
  | 0, 6 => fun d => ⟨k0_dev22 d, k0_dev22_lt d⟩
  | 0, 7 => fun d => ⟨k0_dev25 d, k0_dev25_lt d⟩
  | 0, 8 => fun d => ⟨k0_dev26 d, k0_dev26_lt d⟩
  | 0, 9 => fun d => ⟨k0_dev34 d, k0_dev34_lt d⟩
  | 0, 10 => fun d => ⟨k0_dev27 d, k0_dev27_lt d⟩
  | 0, 11 => fun d => ⟨k0_dev35 d, k0_dev35_lt d⟩
  | 0, 12 => fun d => ⟨k0_dev40 d, k0_dev40_lt d⟩
  | 0, 13 => fun d => ⟨k0_dev43 d, k0_dev43_lt d⟩
  | 1, 0 => fun d => ⟨k0_dev8 d, k0_dev8_lt d⟩
  | 1, 1 => fun d => ⟨k0_dev9 d, k0_dev9_lt d⟩
  | 1, 2 => fun d => ⟨k0_dev10 d, k0_dev10_lt d⟩
  | 1, 3 => fun d => ⟨k0_dev11 d, k0_dev11_lt d⟩
  | 1, 4 => fun d => ⟨k0_dev17 d, k0_dev17_lt d⟩
  | 1, 5 => fun d => ⟨k0_dev20 d, k0_dev20_lt d⟩
  | 1, 6 => fun d => ⟨k0_dev23 d, k0_dev23_lt d⟩
  | 1, 7 => fun d => ⟨k0_dev28 d, k0_dev28_lt d⟩
  | 1, 8 => fun d => ⟨k0_dev29 d, k0_dev29_lt d⟩
  | 1, 9 => fun d => ⟨k0_dev36 d, k0_dev36_lt d⟩
  | 1, 10 => fun d => ⟨k0_dev30 d, k0_dev30_lt d⟩
  | 1, 11 => fun d => ⟨k0_dev37 d, k0_dev37_lt d⟩
  | 1, 12 => fun d => ⟨k0_dev41 d, k0_dev41_lt d⟩
  | 1, 13 => fun d => ⟨k0_dev44 d, k0_dev44_lt d⟩
  | 2, 0 => fun d => ⟨k0_dev12 d, k0_dev12_lt d⟩
  | 2, 1 => fun d => ⟨k0_dev13 d, k0_dev13_lt d⟩
  | 2, 2 => fun d => ⟨k0_dev14 d, k0_dev14_lt d⟩
  | 2, 3 => fun d => ⟨k0_dev15 d, k0_dev15_lt d⟩
  | 2, 4 => fun d => ⟨k0_dev18 d, k0_dev18_lt d⟩
  | 2, 5 => fun d => ⟨k0_dev21 d, k0_dev21_lt d⟩
  | 2, 6 => fun d => ⟨k0_dev24 d, k0_dev24_lt d⟩
  | 2, 7 => fun d => ⟨k0_dev31 d, k0_dev31_lt d⟩
  | 2, 8 => fun d => ⟨k0_dev32 d, k0_dev32_lt d⟩
  | 2, 9 => fun d => ⟨k0_dev38 d, k0_dev38_lt d⟩
  | 2, 10 => fun d => ⟨k0_dev33 d, k0_dev33_lt d⟩
  | 2, 11 => fun d => ⟨k0_dev39 d, k0_dev39_lt d⟩
  | 2, 12 => fun d => ⟨k0_dev42 d, k0_dev42_lt d⟩
  | 2, 13 => fun d => ⟨k0_dev45 d, k0_dev45_lt d⟩

theorem bOff_inb (p : Fin 3) (b : Fin 8) (a : Fin 2) : (![128 * b.val, col0 p] : Fin 2 → ℕ) a + (T p).size a ≤ S1024x1024.size a := by
  revert p b a; decide

theorem slot_inb (p : Fin 3) (s : Fin 7) (a : Fin 2) : (![128 * s.val, 0] : Fin 2 → ℕ) a + (T p).size a ≤ (TS p).size a := by
  revert p s a; decide

theorem cOff_inb (p : Fin 3) (a : Fin 2) : (![0, col0 p] : Fin 2 → ℕ) a + (TC p).size a ≤ S1024x1024.size a := by
  revert p a; decide

theorem wOff_inb (p : Fin 3) (a : Fin 2) : (![0, col0 p] : Fin 2 → ℕ) a + (T p).size a ≤ S128x1024.size a := by
  revert p a; decide

theorem xOff_inb (a : Fin 2) : (![0, 0] : Fin 2 → ℕ) a + S1024x128.size a ≤ S1024x128.size a := by
  revert a; decide

/-- The block of rows a transfer reads, at its printed offset. -/
abbrev outS (p : Fin 3) (m : Fin 8) (d : Dev nD) : Memref sig .tc .vmem (T p) .f32 :=
  oM.slice (Rect.unit (s := S1024x1024) (sOff p m d) (T p).size (sOff_inb p m d)) (fun _ => rfl)

/-- Slot `s` of part `p`'s receive buffer. -/
abbrev slot (p : Fin 3) (s : Fin 7) : Memref sig .tc .vmem (T p) .f32 :=
  (sM p).slice (Rect.unit (s := TS p) ![128 * s.val, 0] (T p).size (slot_inb p s)) (fun _ => rfl)

/-- Where transfer `t` lands: a slot of the receive buffer, or the block itself on the partner. -/
abbrev land (p : Fin 3) (t : Fin 14) (d : Dev nD) : Memref sig .tc .vmem (T p) .f32 :=
  if h : t.val < 7 then slot p ⟨t.val, h⟩ else outS p (msk t) d

/-- The semaphore a departure is counted on, and the one an arrival is counted on. -/
abbrev ssem (p : Fin 3) (k : Fin 4) : DmaSem sig := ⟨3 + 4 * p.val + k.val, by change _ < 57; omega⟩
abbrev rsem (p : Fin 3) (t : Fin 14) : DmaSem sig := ⟨15 + 14 * p.val + t.val, by change _ < 57; omega⟩

theorem T_pos (p : Fin 3) : 0 < (T p).numel := by revert p; decide

/-! ## The steps -/

/-- Transfer `t` of part `p` is issued. -/
def sendI (p : Fin 3) (t : Fin 14) (d : Dev nD) (k : PG F) : PG F :=
  Prog.op (.enqueueDma (outS p (msk t) d) (.remote (Dev.tc (devT p t d)) (land p t d) (.dma (ssem p (sk t)))) (.dma (rsem p t))
    (View.wordExact_bits rfl) (View.wordExact_bits rfl) ⟨⟨rfl, Or.inl rfl⟩, trivial⟩) fun _ => k

/-- Transfer `t` of part `p` is awaited by its receiver, -/
def waitV (p : Fin 3) (t : Fin 14) (d : Dev nD) (k : PG F) : PG F :=
  Prog.op (.waitDma2 (rsem p t) (outS p (msk t) d) (land p t d) (View.wordExact_bits rfl) (View.wordExact_bits rfl)) fun _ => k

/-- and by its sender. -/
def waitS (p : Fin 3) (t : Fin 14) (d : Dev nD) (k : PG F) : PG F :=
  Prog.op (.waitDma2 (ssem p (sk t)) (land p t d) (outS p (msk t) d) (View.wordExact_bits rfl) (View.wordExact_bits rfl)) fun _ => k

/-- A block of part `p` is updated by `f` of itself and slot `s` of the receive buffer. -/
def updI (p : Fin 3) (f : Vec F (T p) .f32 → Vec F (T p) .f32 → Vec F (T p) .f32) (m : Fin 4) (s : Fin 7) (d : Dev nD) (k : PG F) : PG F :=
  Prog.op (.load oM (Rect.unit (s := S1024x1024) (aOff p m d) (T p).size (aOff_inb p m d)).toLoadRect (View.loadsAt_vmem (T_pos p))) fun v =>
  Prog.op (.load (sM p) (Rect.unit (s := TS p) ![128 * s.val, 0] (T p).size (slot_inb p s)).toLoadRect (View.loadsAt_vmem (T_pos p))) fun w =>
  Prog.op (.load oM (Rect.unit (s := S1024x1024) (aOff p m d) (T p).size (aOff_inb p m d)).toLoadRect (View.loadsAt_vmem (T_pos p))) fun _ =>
  Prog.op (.store oM (Rect.unit (s := S1024x1024) (aOff p m d) (T p).size (aOff_inb p m d)) (f v w) Finset.univ
    (View.stores_vmem_bits_univ (T_pos p) rfl) (.inl rfl)) fun _ => k

theorem casts (p : Fin 3) : (T p).ShapeCasts (T p) :=
  match p with
  | 0 => shapeCasts_S128x384_S128x384
  | 1 => shapeCasts_S128x384_S128x384
  | 2 => shapeCasts_S128x256_S128x256

/-- What an addition of part `p` stores: the block and the received block, added. -/
def payAdd (p : Fin 3) (v w : Vec F (T p) .f32) : Vec F (T p) .f32 := addf (shapeCast (T p) v (casts p)) w

/-- What the last addition of part `p` stores: the activation of the sum, in the printed association. -/
def payGelu : (p : Fin 3) → Vec F (T p) .f32 → Vec F (T p) .f32 → Vec F (T p) .f32
  | 0 => k0_pay23
  | 1 => k0_pay24
  | 2 => fun v w => k0_pay28 (k0_pay25 v w) (k0_pay26 v w) (k0_pay27 v w)

/-- What a device first stores in part `p`'s columns: its own product. -/
def payDot : (p : Fin 3) → Vec F S1024x128 .f32 → Vec F (T p) .f32 → Vec F (TC p) .f32
  | 0 => k0_pay1
  | 1 => k0_pay2
  | 2 => k0_pay3

theorem TC_pos (p : Fin 3) : 0 < (TC p).numel := by revert p; decide

/-- The device's own product, stored in part `p`'s columns. -/
def dotI (p : Fin 3) (k : PG F) : PG F :=
  Prog.op (.load xM (Rect.unit (s := S1024x128) ![0, 0] S1024x128.size xOff_inb).toLoadRect (View.loadsAt_vmem h_S1024x128)) fun x =>
  Prog.op (.load wM (Rect.unit (s := S128x1024) ![0, col0 p] (T p).size (wOff_inb p)).toLoadRect (View.loadsAt_vmem (T_pos p))) fun w =>
  Prog.op (.load oM (Rect.unit (s := S1024x1024) ![0, col0 p] (TC p).size (cOff_inb p)).toLoadRect (View.loadsAt_vmem (TC_pos p))) fun _ =>
  Prog.op (.store oM (Rect.unit (s := S1024x1024) ![0, col0 p] (TC p).size (cOff_inb p)) (payDot p x w) Finset.univ
    (View.stores_vmem_bits_univ (TC_pos p) rfl) (.inl rfl)) fun _ => k

/-! ## The stages of one part -/

def stU (p : Fin 3) (d : Dev nD) (k : PG F) : PG F := sendI p 0 d <| sendI p 1 d <| sendI p 2 d <| sendI p 3 d k
def st0 (p : Fin 3) (d : Dev nD) (k : PG F) : PG F := waitV p 0 d <| updI p (payAdd p) 3 0 d <| waitS p 0 d <| sendI p 4 d k
def st1 (p : Fin 3) (d : Dev nD) (k : PG F) : PG F := waitV p 1 d <| updI p (payAdd p) 2 1 d <| waitS p 1 d <| sendI p 5 d k
def st2 (p : Fin 3) (d : Dev nD) (k : PG F) : PG F := waitV p 2 d <| updI p (payAdd p) 1 2 d k
def st4 (p : Fin 3) (d : Dev nD) (k : PG F) : PG F := waitV p 4 d <| updI p (payAdd p) 1 4 d <| waitS p 2 d <| sendI p 6 d k
def st3 (p : Fin 3) (d : Dev nD) (k : PG F) : PG F := waitV p 3 d <| updI p (payAdd p) 0 3 d k
def st5 (p : Fin 3) (d : Dev nD) (k : PG F) : PG F := waitV p 5 d <| updI p (payAdd p) 0 5 d k
def st6 (p : Fin 3) (d : Dev nD) (k : PG F) : PG F :=
  waitV p 6 d <| updI p (payGelu p) 0 6 d <| waitS p 3 d <| sendI p 7 d <| waitS p 4 d <| sendI p 8 d <| waitS p 5 d <| sendI p 10 d k
def st7 (p : Fin 3) (d : Dev nD) (k : PG F) : PG F :=
  waitV p 7 d <| waitS p 6 d <| sendI p 9 d <| waitS p 7 d <| sendI p 11 d k
def st8 (p : Fin 3) (d : Dev nD) (k : PG F) : PG F := waitV p 8 d <| waitS p 8 d <| sendI p 12 d k
def st9 (p : Fin 3) (d : Dev nD) (k : PG F) : PG F := waitV p 9 d <| waitS p 10 d <| sendI p 13 d k
def stV (p : Fin 3) (d : Dev nD) (k : PG F) : PG F := waitV p 10 d <| waitV p 11 d <| waitV p 12 d <| waitV p 13 d k
def stS (p : Fin 3) (d : Dev nD) (k : PG F) : PG F := waitS p 12 d <| waitS p 13 d <| waitS p 9 d <| waitS p 11 d k

/-- The runtime's barrier semaphore. -/
abbrev bar : Sem sig := sig.barrier 0 rfl

/-- The three partners' barriers are signalled. -/
def sigI (d : Dev nD) (k : PG F) : PG F :=
  Prog.op (.semSignal (⟨k0_dev1 d, k0_dev1_lt d⟩, .tc) bar 1) fun _ =>
  Prog.op (.semSignal (⟨k0_dev2 d, k0_dev2_lt d⟩, .tc) bar 1) fun _ =>
  Prog.op (.semSignal (⟨k0_dev3 d, k0_dev3_lt d⟩, .tc) bar 1) fun _ => k

/-- The device's own barrier is awaited. -/
def barI (k : PG F) : PG F := Prog.op (.semWait bar 3) fun _ => k

/-- A stage run for the three parts in turn. -/
def each (st : Fin 3 → Dev nD → PG F → PG F) (d : Dev nD) (k : PG F) : PG F := st 0 d <| st 1 d <| st 2 d k

/-- The whole body, at device `d`. -/
def flat (d : Dev nD) : PG F :=
  sigI d <| dotI 0 <| barI <| stU 0 d <| dotI 1 <| stU 1 d <| dotI 2 <| stU 2 d <|
  each st0 d <| each st1 d <| each st2 d <| each st4 d <| each st3 d <| each st5 d <| each st6 d <|
  each st7 d <| each st8 d <| each st9 d <| each stV d <| each stS d <| Prog.ret ⟨⟩

set_option maxRecDepth 65536 in
set_option maxHeartbeats 4000000 in
/-- The printed body is that sequence. -/
theorem body_flat : cc0_body_skel (F := F) xM (Memref.isWhole_whole _) wM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4
    = Prog.op .deviceId fun d => flat d := by
  rfl

end Cert.AllReduceProof

end
-- ==== Proof.AllReduce.Sched.lean ====
/-
# The all-reduce kernel's protocol

Who the three partners of a device are, which block of rows each transfer carries, what every block
holds at every stage, and the schedule of the semaphore cells: which transfer pays which round of which
cell, and what it hands over with it.
-/
module

public import proofs.«01_k».proof.Proof.AllReduce.Prog
public import Idealize.ShloMosaic.Lib.MemrefSat

@[expose] public section

noncomputable section

namespace Cert.AllReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the kernel's own (three duties) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners and blocks -/

/-- The partner along axis `k`: a device and its partner differ in that one coordinate. -/
def partner : Fin 3 → Dev nD → Dev nD :=
  ![![1, 0, 3, 2, 5, 4, 7, 6], ![3, 2, 1, 0, 7, 6, 5, 4], ![4, 5, 6, 7, 0, 1, 2, 3]]

/-- The axes in the order part `p` takes them. -/
def dims : Fin 3 → Fin 3 → Fin 3 := ![![0, 2, 1], ![1, 0, 2], ![2, 1, 0]]

/-- The partner of the `j`-th stage of part `p`. -/
def peer (p j : Fin 3) (c : Dev nD) : Dev nD := partner (dims p j) c

/-- The block of part `p` that is device `c`'s own: its coordinates, in the part's order, as bits. -/
def own : Fin 3 → Dev nD → Fin 8 :=
  ![![0, 4, 5, 1, 2, 6, 7, 3], ![0, 2, 6, 4, 1, 3, 7, 5], ![0, 1, 3, 2, 4, 5, 7, 6]]

/-- The device whose own block of part `p` is `b`. -/
def owner : Fin 3 → Fin 8 → Dev nD :=
  ![![0, 3, 4, 7, 1, 2, 5, 6], ![0, 4, 1, 5, 3, 7, 2, 6], ![0, 1, 3, 2, 4, 5, 7, 6]]

/-- The block that differs from device `c`'s own in the bits `m`. -/
def ab (p : Fin 3) (c : Dev nD) (m : Fin 8) : Fin 8 := own p c ^^^ m

/-- The bit stage `j` exchanges. -/
def bit : Fin 3 → Fin 8 := ![4, 2, 1]

theorem partner_partner (k : Fin 3) (c : Dev nD) : partner k (partner k c) = c := by revert k c; decide
theorem peer_peer (p j : Fin 3) (c : Dev nD) : peer p j (peer p j c) = c := partner_partner _ _
theorem owner_own (p : Fin 3) (c : Dev nD) : owner p (own p c) = c := by revert p c; decide
theorem own_owner (p : Fin 3) (b : Fin 8) : own p (owner p b) = b := by revert p b; decide
theorem ab_zero (p : Fin 3) (c : Dev nD) : ab p c 0 = own p c := by revert p c; decide
theorem ab_peer (p j : Fin 3) (c : Dev nD) (m : Fin 8) : ab p (peer p j c) m = ab p c (m ^^^ bit j) := by revert p j c m; decide +kernel
theorem dims_injective (p : Fin 3) : Function.Injective (dims p) := by revert p; decide

/-- The printed offsets and destinations are these blocks and partners. -/
theorem sOff_eq : ∀ (p : Fin 3) (m : Fin 8) (c : Dev nD), sOff p m c = ![128 * (ab p c m).val, col0 p] := by decide +kernel
theorem aOff_eq : ∀ (p : Fin 3) (m : Fin 4) (c : Dev nD), aOff p m c = ![128 * (ab p c (m.castLE (by decide))).val, col0 p] := by decide +kernel
theorem devT_eq : ∀ (p : Fin 3) (t : Fin 14) (c : Dev nD), devT p t c = peer p (stg t) c := by decide +kernel
theorem dev1_eq : ∀ c : Dev nD, (⟨k0_dev1 c, k0_dev1_lt c⟩ : Dev nD) = partner 0 c := by decide +kernel
theorem dev2_eq : ∀ c : Dev nD, (⟨k0_dev2 c, k0_dev2_lt c⟩ : Dev nD) = partner 1 c := by decide +kernel
theorem dev3_eq : ∀ c : Dev nD, (⟨k0_dev3 c, k0_dev3_lt c⟩ : Dev nD) = partner 2 c := by decide +kernel

/-- The block transfer `t` takes from device `c`, and the block the one `c` receives is of. -/
abbrev srcB (p : Fin 3) (t : Fin 14) (c : Dev nD) : Fin 8 := ab p c (msk t)
abbrev rcvB (p : Fin 3) (t : Fin 14) (c : Dev nD) : Fin 8 := ab p c (msk t ^^^ bit (stg t))
/-- The device transfer `t` goes to (and, the exchanges being mutual, comes from). -/
abbrev oth (p : Fin 3) (t : Fin 14) (c : Dev nD) : Dev nD := peer p (stg t) c

theorem oth_oth (p : Fin 3) (t : Fin 14) (c : Dev nD) : oth p t (oth p t c) = c := peer_peer _ _ _
theorem srcB_oth (p : Fin 3) (t : Fin 14) (c : Dev nD) : srcB p t (oth p t c) = rcvB p t c := ab_peer _ _ _ _
theorem rcvB_oth (p : Fin 3) (t : Fin 14) (c : Dev nD) : rcvB p t (oth p t c) = srcB p t c := by
  rw [← srcB_oth, oth_oth]

/-- Block `b` of part `p` of the result's buffer. -/
abbrev rB (pb : Fin 3 × Fin 8) : Rect S1024x1024 :=
  Rect.unit (s := S1024x1024) ![128 * pb.2.val, col0 pb.1] (T pb.1).size (bOff_inb pb.1 pb.2)
abbrev outB (p : Fin 3) (b : Fin 8) : Memref sig .tc .vmem (T p) .f32 :=
  oM.slice (Rect.unit (s := S1024x1024) ![128 * b.val, col0 p] (T p).size (bOff_inb p b)) (fun _ => rfl)

theorem outS_eq (p : Fin 3) (m : Fin 8) (c : Dev nD) : outS p m c = outB p (ab p c m) := by
  unfold outS outB; congr 2; exact sOff_eq p m c

/-- What a transfer of part `p` counts on each of its cells. -/
abbrev N (p : Fin 3) : ℕ := (slot p 0).view.dmaCredit
theorem N_pos (p : Fin 3) : 0 < N p := View.dmaCredit_pos _ (T_pos p)
theorem N_slot (p : Fin 3) (s : Fin 7) : (slot p s).view.dmaCredit = N p := by fin_cases p <;> rfl
theorem N_outB (p : Fin 3) (b : Fin 8) : (outB p b).view.dmaCredit = N p := by fin_cases p <;> rfl

/-! ## What the blocks hold -/

section Values

variable (X : Dev nD → Vec F S1024x128 .f32) (Y : Dev nD → Vec F S128x1024 .f32)

/-- Part `p`'s columns of a device's second factor. -/
def wcol (p : Fin 3) (y : Vec F S128x1024 .f32) : Vec F (T p) .f32 :=
  fun i => y ((Rect.unit (s := S128x1024) ![0, col0 p] (T p).size (wOff_inb p)).emb i)

theorem blk_inb (p : Fin 3) (b : Fin 8) (a : Fin 2) : (![128 * b.val, 0] : Fin 2 → ℕ) a + (T p).size a ≤ (TC p).size a := by
  revert p b a; decide

/-- Block `b` of part `p` of device `c`'s own product; -/
def A0 (p : Fin 3) (c : Dev nD) (b : Fin 8) : Vec F (T p) .f32 :=
  fun i => payDot p (X c) (wcol p (Y c)) ((Rect.unit (s := TC p) ![128 * b.val, 0] (T p).size (blk_inb p b)).emb i)
/-- that and the first partner's, added; -/
def A1 (p : Fin 3) (c : Dev nD) (b : Fin 8) : Vec F (T p) .f32 := payAdd p (A0 X Y p c b) (A0 X Y p (peer p 0 c) b)
/-- that and the second partner's, added; -/
def A2 (p : Fin 3) (c : Dev nD) (b : Fin 8) : Vec F (T p) .f32 := payAdd p (A1 X Y p c b) (A1 X Y p (peer p 1 c) b)
/-- the activation of that and the third partner's, added; -/
def A3 (p : Fin 3) (c : Dev nD) (b : Fin 8) : Vec F (T p) .f32 := payGelu p (A2 X Y p c b) (A2 X Y p (peer p 2 c) b)
/-- the finished block `b`, which its owner computes. -/
def FF (p : Fin 3) (b : Fin 8) : Vec F (T p) .f32 := A3 X Y p (owner p b) b

/-- What transfer `t` of the reduction carries from device `c`. -/
def VT (p : Fin 3) (t : Fin 14) (c : Dev nD) (b : Fin 8) : Vec F (T p) .f32 :=
  if t.val < 4 then A0 X Y p c b else if t.val < 6 then A1 X Y p c b else A2 X Y p c b

end Values

/-! ## Ownership of blocks and slots -/

/-- Device `c` holds block `b` of part `p` at share `q`, reading `v`; -/
abbrev blk (c : Dev nD) (p : Fin 3) (b : Fin 8) (q : PosShare TreeShare) (v : Vec F (T p) .f32) : sProp 𝕄 :=
  owns (Ix := Unit) (Name := ℕ) (U := UU) (Lvl := ℕ) (c : Thread nD τ) (outB p b) q v
/-- some contents of it; -/
abbrev blkA (c : Dev nD) (p : Fin 3) (b : Fin 8) : sProp 𝕄 :=
  ownsSat (Ix := Unit) (Name := ℕ) (U := UU) (Lvl := ℕ) (Val := Elt F) (c : Thread nD τ) (outB p b) fullShare fun _ => True
/-- slot `s` of part `p`'s receive buffer, reading `v`; -/
abbrev slt (c : Dev nD) (p : Fin 3) (s : Fin 7) (v : Vec F (T p) .f32) : sProp 𝕄 :=
  owns (Ix := Unit) (Name := ℕ) (U := UU) (Lvl := ℕ) (c : Thread nD τ) (slot p s) fullShare v
/-- some contents of it. -/
abbrev sltA (c : Dev nD) (p : Fin 3) (s : Fin 7) : sProp 𝕄 :=
  ownsSat (Ix := Unit) (Name := ℕ) (U := UU) (Lvl := ℕ) (Val := Elt F) (c : Thread nD τ) (slot p s) fullShare fun _ => True

/-- The share of the block a transfer back sends with: a block sent several times is split. -/
def sh : Fin 14 → PosShare TreeShare
  | 7 => fullShare.left
  | 8 => fullShare.right.left
  | 10 => fullShare.right.right
  | 9 => fullShare.left
  | 11 => fullShare.right
  | _ => fullShare

/-! ## The cells -/

abbrev bC (c : Dev nD) : GSem nD τ sig := ((c : Thread nD τ), .reg bar)
abbrev sC (c : Dev nD) (p : Fin 3) (k : Fin 4) : GSem nD τ sig := ((c : Thread nD τ), .dma (ssem p k))
abbrev vC (c : Dev nD) (p : Fin 3) (t : Fin 14) : GSem nD τ sig := ((c : Thread nD τ), .dma (rsem p t))

/-- The kernel's own semaphores by part and number: send ones, receive ones; -/
abbrev DK : Type := (Fin 3 × Fin 4) ⊕ (Fin 3 × Fin 14)
/-- with the barrier, all its cells on a device. -/
abbrev CK : Type := Option DK

def csem : CK → SemLoc sig
  | none => .reg bar
  | some (.inl (p, k)) => .dma (ssem p k)
  | some (.inr (p, t)) => .dma (rsem p t)

/-- Which of the cells a semaphore is. -/
def dec : SemLoc sig → Option CK
  | .reg s => if s = bar then some none else none
  | .dma q =>
    if q.val < 3 then none
    else if q.val < 15 then some (some (.inl (Fin.ofNat 3 ((q.val - 3) / 4), Fin.ofNat 4 ((q.val - 3) % 4))))
    else some (some (.inr (Fin.ofNat 3 ((q.val - 15) / 14), Fin.ofNat 14 ((q.val - 15) % 14))))

theorem dec_csem : ∀ k : CK, dec (csem k) = some k := by decide +kernel
theorem dec_b : dec (.reg bar) = some none := dec_csem none
theorem dec_s (p : Fin 3) (k : Fin 4) : dec (.dma (ssem p k)) = some (some (.inl (p, k))) := dec_csem (some (.inl (p, k)))
theorem dec_v (p : Fin 3) (t : Fin 14) : dec (.dma (rsem p t)) = some (some (.inr (p, t))) := dec_csem (some (.inr (p, t)))

/-! ## The schedule -/

section Sched

variable (X : Dev nD → Vec F S1024x128 .f32) (Y : Dev nD → Vec F S128x1024 .f32)

/-- How many rounds a send semaphore has. -/
def nrd : Fin 4 → ℕ := ![4, 4, 3, 3]
/-- The transfer of round `r` of send semaphore `k`. -/
def tagOf (k : Fin 4) (r : ℕ) : Fin 14 :=
  ((![![0, 4, 8, 12], ![1, 5, 10, 13], ![2, 6, 9, 9], ![3, 7, 11, 11]] : Fin 4 → Fin 4 → Fin 14)) k (Fin.ofNat 4 r)
theorem tagOf_eq (t : Fin 14) : tagOf (sk t) (rd t) = t := by revert t; decide
theorem rd_lt (t : Fin 14) : rd t < nrd (sk t) := by revert t; decide

/-- What the arrival of transfer `t` hands its receiver `c`: in the reduction the slot it filled, and the
    sender's block, which the sender has no more use for; on the way back the block. -/
def payV (c : Dev nD) (p : Fin 3) (t : Fin 14) : sProp 𝕄 :=
  if h : t.val < 7 then
    iprop(slt c p ⟨t.val, h⟩ (VT X Y p t (oth p t c) (rcvB p t c)) ∗ blkA (oth p t c) p (rcvB p t c))
  else blk c p (rcvB p t c) fullShare (FF X Y p (rcvB p t c))

/-- What the departure of transfer `t` hands its sender `c`: on the way back, the block again. -/
def payS (c : Dev nD) (p : Fin 3) (t : Fin 14) : sProp 𝕄 :=
  if t.val < 7 then iprop(emp) else blk c p (srcB p t c) (sh t) (FF X Y p (srcB p t c))

/-- The slots that the partner along axis `d` is to fill. -/
abbrev slotsOf (d : Fin 3) : Finset (Fin 3 × Fin 7) :=
  Finset.univ.filter fun ps => dims ps.1 (stg (ps.2.castLE (by decide))) = d

/-- What the partner along axis `d` hands device `c` with its signal: the slots `c` is to fill there. -/
def payB (c : Dev nD) (d : Fin 3) : sProp 𝕄 :=
  BI.bigSep (slotsOf d) fun ps => sltA (F := F) (partner d c) ps.1 ps.2

def dut : Option CK → ℕ → Finset (Fin 3)
  | some none, r => if r = 0 then Finset.univ else ∅
  | some (some (.inl (_, k))), r => if r < nrd k then {0} else ∅
  | some (some (.inr _)), r => if r = 0 then {0} else ∅
  | none, _ => ∅

def amt : Option CK → ℕ
  | some none => 1
  | some (some (.inl (p, _))) => N p
  | some (some (.inr (p, _))) => N p
  | none => 1

def pay (c : Dev nD) : Option CK → ℕ → Fin 3 → sProp 𝕄
  | some none, _, d => payB (F := F) c d
  | some (some (.inl (p, k))), r, _ => payS X Y c p (tagOf k r)
  | some (some (.inr (p, t))), _, _ => payV X Y c p t
  | none, _, _ => iprop(emp)

theorem amt_pos : ∀ k, 0 < amt k
  | some none => Nat.one_pos
  | some (some (.inl (p, _))) => N_pos p
  | some (some (.inr (p, _))) => N_pos p
  | none => Nat.one_pos

/-- A barrier has one round of three duties, one per partner; a receive semaphore one round, a send
    semaphore a round per transfer counted on it, each of one duty. -/
def Rd : Rounds.Schedule (GSem nD τ sig) (Fin 3) 𝕄 where
  duties g r := if g.1.2 = .tc then dut (dec g.2) r else ∅
  unitless _ := False
  amount g _ _ := amt (dec g.2)
  payload g r d := pay X Y g.1.1 (dec g.2) r d
  amount_pos g _ _ _ := amt_pos _

instance payV_storable (c : Dev nD) (p : Fin 3) (t : Fin 14) : BI.Storable (upEmb : UEmb _ 𝕄) (payV X Y c p t) := by
  unfold payV; split <;> infer_instance
instance payS_storable (c : Dev nD) (p : Fin 3) (t : Fin 14) : BI.Storable (upEmb : UEmb _ 𝕄) (payS X Y c p t) := by
  unfold payS; split <;> infer_instance
instance payB_storable (c : Dev nD) (d : Fin 3) : BI.Storable (upEmb : UEmb _ 𝕄) (payB (F := F) c d) := by
  unfold payB; infer_instance
instance pay_storable (c : Dev nD) (k : Option CK) (r : ℕ) (d : Fin 3) : BI.Storable (upEmb : UEmb _ 𝕄) (pay X Y c k r d) := by
  unfold pay; split <;> infer_instance
instance Rd_storable (g : GSem nD τ sig) (r : ℕ) (d : Fin 3) : BI.Storable (upEmb : UEmb _ 𝕄) ((Rd X Y).payload g r d) := by
  show BI.Storable upEmb (pay X Y g.1.1 (dec g.2) r d); infer_instance

theorem duties_b (c : Dev nD) : (Rd X Y).duties (bC c) 0 = Finset.univ := by
  dsimp only [Rd]; rw [if_pos rfl, dec_b]; rfl
theorem duties_v (c : Dev nD) (p : Fin 3) (t : Fin 14) : (Rd X Y).duties (vC c p t) 0 = {0} := by
  dsimp only [Rd]; rw [if_pos rfl, dec_v]; rfl
theorem duties_s (c : Dev nD) (p : Fin 3) (k : Fin 4) (r : ℕ) (h : r < nrd k) : (Rd X Y).duties (sC c p k) r = {0} := by
  dsimp only [Rd]; rw [if_pos rfl, dec_s]; exact if_pos h

theorem later_b (c : Dev nD) : ∀ r, 1 ≤ r → (Rd X Y).duties (bC c) r = ∅ := fun r hr => by
  dsimp only [Rd]; rw [if_pos rfl, dec_b]; exact if_neg (by omega)
theorem later_v (c : Dev nD) (p : Fin 3) (t : Fin 14) : ∀ r, 1 ≤ r → (Rd X Y).duties (vC c p t) r = ∅ := fun r hr => by
  dsimp only [Rd]; rw [if_pos rfl, dec_v]; exact if_neg (by omega)
theorem later_s (c : Dev nD) (p : Fin 3) (k : Fin 4) : ∀ r, nrd k ≤ r → (Rd X Y).duties (sC c p k) r = ∅ := fun r hr => by
  dsimp only [Rd]; rw [if_pos rfl, dec_s]; exact if_neg (by omega)

theorem amount_b (c : Dev nD) (r : ℕ) (d : Fin 3) : (Rd X Y).amount (bC c) r d = 1 := by dsimp only [Rd]; rw [dec_b]; rfl
theorem amount_v (c : Dev nD) (p : Fin 3) (t : Fin 14) (r : ℕ) (d : Fin 3) : (Rd X Y).amount (vC c p t) r d = N p := by
  dsimp only [Rd]; rw [dec_v]; rfl
theorem amount_s (c : Dev nD) (p : Fin 3) (k : Fin 4) (r : ℕ) (d : Fin 3) : (Rd X Y).amount (sC c p k) r d = N p := by
  dsimp only [Rd]; rw [dec_s]; rfl

theorem expect_b (c : Dev nD) : (Rd X Y).expect (bC c) 0 = 3 := by
  unfold Schedule.expect Schedule.amountOf
  rw [duties_b, Finset.sum_congr rfl fun d _ => amount_b X Y c 0 d]; rfl
theorem expect_v (c : Dev nD) (p : Fin 3) (t : Fin 14) : (Rd X Y).expect (vC c p t) 0 = N p := by
  unfold Schedule.expect Schedule.amountOf; rw [duties_v, Finset.sum_singleton, amount_v]
theorem expect_s (c : Dev nD) (p : Fin 3) (k : Fin 4) (r : ℕ) (h : r < nrd k) : (Rd X Y).expect (sC c p k) r = N p := by
  unfold Schedule.expect Schedule.amountOf; rw [duties_s X Y c p k r h, Finset.sum_singleton, amount_s]

theorem payload_b (c : Dev nD) (r : ℕ) (d : Fin 3) : (Rd X Y).payload (bC c) r d = payB c d := by dsimp only [Rd]; rw [dec_b]; rfl
theorem payload_v (c : Dev nD) (p : Fin 3) (t : Fin 14) (r : ℕ) (d : Fin 3) : (Rd X Y).payload (vC c p t) r d = payV X Y c p t := by
  dsimp only [Rd]; rw [dec_v]; rfl
theorem payload_s (c : Dev nD) (p : Fin 3) (k : Fin 4) (r : ℕ) (d : Fin 3) : (Rd X Y).payload (sC c p k) r d = payS X Y c p (tagOf k r) := by
  dsimp only [Rd]; rw [dec_s]; rfl

theorem rest_v (c : Dev nD) (p : Fin 3) (t : Fin 14) :
    bigSep ((Rd X Y).duties (vC c p t) 0 \ ∅) (fun d => (Rd X Y).payload (vC c p t) 0 d) = payV X Y c p t := by
  rw [Finset.sdiff_empty, duties_v, bigSep_singleton, payload_v]
theorem rest_s (c : Dev nD) (p : Fin 3) (k : Fin 4) (r : ℕ) (h : r < nrd k) :
    bigSep ((Rd X Y).duties (sC c p k) r \ ∅) (fun d => (Rd X Y).payload (sC c p k) r d) = payS X Y c p (tagOf k r) := by
  rw [Finset.sdiff_empty, duties_s X Y c p k r h, bigSep_singleton, payload_s]
theorem rest_b (c : Dev nD) :
    bigSep ((Rd X Y).duties (bC c) 0 \ ∅) (fun d => (Rd X Y).payload (bC c) 0 d) = bigSep Finset.univ fun d => payB (F := F) c d := by
  rw [Finset.sdiff_empty, duties_b]; exact bigSep_congr fun d _ => payload_b X Y c 0 d

end Sched

/-! ## What a device owes; the levels -/

/-- The transfers in the order a device issues them. -/
def order : List (Fin 3 × Fin 14) :=
  [(0, 0), (0, 1), (0, 2), (0, 3), (1, 0), (1, 1), (1, 2), (1, 3), (2, 0), (2, 1), (2, 2), (2, 3),
   (0, 4), (1, 4), (2, 4), (0, 5), (1, 5), (2, 5), (0, 6), (1, 6), (2, 6),
   (0, 7), (0, 8), (0, 10), (1, 7), (1, 8), (1, 10), (2, 7), (2, 8), (2, 10),
   (0, 9), (0, 11), (1, 9), (1, 11), (2, 9), (2, 11), (0, 12), (1, 12), (2, 12), (0, 13), (1, 13), (2, 13)]

/-- What a device owes that has the transfers `l` yet to issue: the arrival of each. -/
def owedL (c : Dev nD) : List (Fin 3 × Fin 14) → CellTallies nD τ sig Unit
  | [] => 0
  | (p, t) :: l => owedL c l + tallyAt (vC (oth p t c) p t) () (N p)

def O₃ (c : Dev nD) : CellTallies nD τ sig Unit := owedL c order
def O₂ (c : Dev nD) : CellTallies nD τ sig Unit := O₃ c + tallyAt (bC (partner 2 c)) () 1
def O₁ (c : Dev nD) : CellTallies nD τ sig Unit := O₂ c + tallyAt (bC (partner 1 c)) () 1
/-- At launch: every arrival, and a unit to each partner's barrier. -/
def O₀ (c : Dev nD) : CellTallies nD τ sig Unit := O₁ c + tallyAt (bC (partner 0 c)) () 1

def L (g : GSem nD τ sig) : Finset Unit := if g.1.2 = .tc then {()} else ∅

/-- How late transfer `t` is awaited. -/
abbrev lvl : Fin 14 → ℕ := ![2, 2, 2, 2, 3, 3, 4, 5, 5, 6, 5, 6, 7, 7]

def lvK : Option CK → ℕ
  | some none => 1
  | some (some (.inr (_, t))) => lvl t
  | _ => 0

def lv (g : GSem nD τ sig) (_ : Unit) : ℕ := lvK (dec g.2)

theorem L_of_ne (g : GSem nD τ sig) (h : g.1.2 ≠ .tc) : L g = ∅ := if_neg h
theorem L_tc (c : Dev nD) (sm : SemLoc sig) : L ((c : Thread nD τ), sm) = {()} := if_pos rfl

theorem owedL_pos {c : Dev nD} {l : List (Fin 3 × Fin 14)} {g : GSem nD τ sig} {u : Unit} (h : 0 < owedL c l g u) :
    ∃ x ∈ l, g = vC (oth x.1 x.2 c) x.1 x.2 := by
  induction l with
  | nil => exact absurd h (Nat.lt_irrefl 0)
  | cons x l ih =>
    obtain ⟨p, t⟩ := x
    unfold owedL at h
    rw [Pi.add_apply, Finsupp.add_apply, tallyAt_apply] at h
    by_cases hg : g = vC (oth p t c) p t
    · exact ⟨(p, t), List.mem_cons_self, hg⟩
    · rw [if_neg (fun h' => hg h'.1), Nat.add_zero] at h
      obtain ⟨x, hx, he⟩ := ih h
      exact ⟨x, List.mem_cons_of_mem _ hx, he⟩

theorem O₀_pos {c : Dev nD} {g : GSem nD τ sig} {u : Unit} (h : 0 < O₀ c g u) :
    (∃ x ∈ order, g = vC (oth x.1 x.2 c) x.1 x.2) ∨ ∃ k, g = bC (partner k c) := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  exact hn.1 (owedL_pos (u := u) h)

/-- A device may wait on a cell below everything it has yet to issue. -/
theorem mayWait (c : Dev nD) (sm : SemLoc sig) (l : List (Fin 3 × Fin 14)) (h : ∀ x ∈ l, lvK (dec sm) < lvl x.2) :
    (levAts L lv : sProp 𝕄) ⊢ MayWait (c : Thread nD τ) sm () (owedL c l) :=
  MayOwe.of_cut (L := L) (lev := lv) (lvK (dec sm))
    (fun p hp => by rw [Finset.mem_singleton.mp hp, L_tc]; exact Finset.mem_singleton_self _)
    (fun g u hg => by obtain ⟨x, -, rfl⟩ := owedL_pos hg; rw [L_tc]; exact Finset.mem_singleton_self _)
    (fun p hp => by rw [Finset.mem_singleton.mp hp]; exact Nat.le_refl _)
    (fun g u hg => by obtain ⟨x, hx, rfl⟩ := owedL_pos hg; dsimp only [lv]; rw [dec_v]; exact h x hx)

/-- The pipeline's own waits are below everything. -/
theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, -, rfl⟩ | ⟨k, rfl⟩ <;> exact Finset.mem_singleton_self _)
      (fun p hp => by rw [Finset.mem_singleton.mp hp]; dsimp only [lv]; rw [hq]; exact Nat.le_refl _)
      (fun g u hg => by
        rcases O₀_pos hg with ⟨x, hx, rfl⟩ | ⟨k, rfl⟩
        · dsimp only [lv]; rw [dec_v]; exact (by decide : ∀ t : Fin 14, 0 < lvl t) x.2
        · dsimp only [lv]; rw [dec_b]; exact Nat.one_pos)
  · rw [MayWait_zero]; iintro -; iempintro

end Cert.AllReduceProof

end
-- ==== Proof.AllReduce.Ops.lean ====
/-
# One rule per step

Each step of the kernel's instruction stream — a transfer issued, its arrival awaited, its departure
awaited, a block updated — as a rule of the program logic, for every part and every transfer at once.
-/
module

public import proofs.«01_k».proof.Proof.AllReduce.Sched

@[expose] public section

noncomputable section

namespace Cert.AllReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- Device `c`'s weakest precondition of a program of the kernel. -/
abbrev WP (c : Dev nD) (k : PG F) (Q : PUnit → sProp 𝕄) : sProp 𝕄 :=
  wp frame (wpE (defs₀ (F := F)) 𝒱₀ (c : Thread nD τ) none) Set.univ k Q

/-- The cell of device `c` that `k` names. -/
abbrev kcell (ck : Dev nD × CK) : GSem nD τ sig := ((ck.1 : Thread nD τ), csem ck.2)

/-! ## The resources of a transfer -/

/-- Send semaphore `k` is idle, at round `r`; -/
def sFree (c : Dev nD) (p : Fin 3) (k : Fin 4) (r : ℕ) : sProp 𝕄 :=
  iprop(atPos ER (sC c p k) r ∅ 0 ∗ reached ER (sC c p k) r)
/-- a departure is counted on it. -/
def sBusy (c : Dev nD) (p : Fin 3) (k : Fin 4) (r : ℕ) : sProp 𝕄 :=
  iprop(atPos ER (sC c p k) r ∅ 0 ∗ cred (tallyAt (sC c p k) () (N p)))
/-- Device `c` may issue transfer `t`. -/
def tok (c : Dev nD) (p : Fin 3) (t : Fin 14) : sProp 𝕄 :=
  iprop(dutyTok ER (sC c p (sk t)) (rd t) 0 ∗ dutyTok ER (vC (oth p t c) p t) 0 0)
/-- The arrival of transfer `t` is to be awaited; -/
def vPend (c : Dev nD) (p : Fin 3) (t : Fin 14) : sProp 𝕄 :=
  iprop(atPos ER (vC c p t) 0 ∅ 0 ∗ cred (tallyAt (vC c p t) () (N p)))
/-- it has been. -/
def vDone (c : Dev nD) (p : Fin 3) (t : Fin 14) : sProp 𝕄 := atPos ER (vC c p t) 1 ∅ 0
/-- Device `c` owes the arrivals of the transfers `l`. -/
def ow (c : Dev nD) (l : List (Fin 3 × Fin 14)) : sProp 𝕄 :=
  iprop(∃ W, owes (c : Thread nD τ) (owedL c l) W)

section Rules

variable (X : Dev nD → Vec F S1024x128 .f32) (Y : Dev nD → Vec F S128x1024 .f32)
variable (K : Dev nD × CK → ℕ)

/-- Every cell's invariant, that every cell has reached its first round, and the levels. -/
def ctx : sProp 𝕄 :=
  iprop((bigSep Finset.univ fun ck : Dev nD × CK => cellInv ER (Rd X Y) (K ck) (kcell ck))
    ∗ (bigSep Finset.univ fun ck : Dev nD × CK => reached ER (kcell ck) 0) ∗ levAts L lv)

instance ctx_persistent : BI.Persistent (ctx X Y K) := by unfold ctx; infer_instance

theorem inv_at (ck : Dev nD × CK) : ctx X Y K ⊢ cellInv ER (Rd X Y) (K ck) (kcell ck) := by
  unfold ctx; iintro ⟨H, -, -⟩; iapply (show (bigSep Finset.univ fun ck : Dev nD × CK => (cellInv ER (Rd X Y) (K ck) (kcell ck) : sProp 𝕄)) ⊢ cellInv ER (Rd X Y) (K ck) (kcell ck) from bigSep_elim (Finset.mem_univ ck)); iexact H
theorem reached_at (ck : Dev nD × CK) : ctx X Y K ⊢ reached ER (kcell ck) 0 := by
  unfold ctx; iintro ⟨-, H, -⟩; iapply (show (bigSep Finset.univ fun ck : Dev nD × CK => (reached ER (kcell ck) 0 : sProp 𝕄)) ⊢ reached ER (kcell ck) 0 from bigSep_elim (Finset.mem_univ ck)); iexact H
theorem lev_at : ctx X Y K ⊢ levAts L lv := by unfold ctx; iintro ⟨-, -, H⟩; iexact H

variable (c : Dev nD) (Q : PUnit.{1} → sProp (MT nD τ sig Unit (Elt F) ℕ UU ℕ))

/-- A transfer of the reduction, its operands by equations. -/
theorem wp_send_rs' (p : Fin 3) (t : Fin 14) (ht : t.val < 7) (l : List (Fin 3 × Fin 14))
    {src dst : Memref sig .tc .vmem (T p) .f32} {n : Dev nD} (hs : src = outB p (srcB p t c)) (hd : dst = slot p ⟨t.val, ht⟩) (hn : n = oth p t c)
    {hsc : (dst : Memref sig (Dev.tc n : Thread nD τ).2.kind .vmem (T p) .f32).view.ref.isScScratch = false}
    {hsrc : src.view.WordExact} {hdst : (dst : Memref sig (Dev.tc n : Thread nD τ).2.kind .vmem (T p) .f32).view.WordExact}
    {hsem : DmaTarget.Typed .vmem (.dma (rsem p t)) (.remote (Dev.tc n : Thread nD τ) (dst : Memref sig (Dev.tc n : Thread nD τ).2.kind .vmem (T p) .f32) (.dma (ssem p (sk t))) hsc)}
    (k : PUnit → PG F) :
    iprop(ctx X Y K ∗ tok c p t ∗ sFree c p (sk t) (rd t) ∗ blk c p (srcB p t c) fullShare (VT X Y p t c (srcB p t c))
        ∗ sltA (oth p t c) p ⟨t.val, ht⟩ ∗ ow c ((p, t) :: l))
      ⊢ iprop(((sBusy c p (sk t) (rd t) ∗ ow c l) -∗ WP c (k ⟨⟩) Q)
          -∗ WP c (.op (.enqueueDma src (.remote (Dev.tc n : Thread nD τ) dst (.dma (ssem p (sk t))) hsc) (.dma (rsem p t)) hsrc hdst hsem) k) Q) := by
  subst hs hd hn
  unfold tok sFree ow blk sltA owns ownsSat
  iintro ⟨#HC, ⟨HtS, HtV⟩, ⟨Hat, #HrS⟩, ⟨%fs, %hfs, Hb⟩, ⟨%fd, -, Hs⟩, ⟨%W, HO⟩⟩ Hk
  iapply (Rounds.wp_send_landing_pointsTo 𝒱₀ ER (Rd X Y) (c : Thread nD τ) none (c' := (Dev.tc (oth p t c) : Thread nD τ))
    (src := outB p (srcB p t c)) (dst := slot p ⟨t.val, ht⟩) (sS := .dma (ssem p (sk t))) (sem := .dma (rsem p t))
    (κ₁ := K (c, some (.inl (p, sk t)))) (κ₂ := K (oth p t c, some (.inr (p, t)))) (r₁ := rd t) (r₂ := 0) (d₁ := 0) (d₂ := 0) (fd := fd) (fs := fs) (q := fullShare)
    (by rw [duties_s X Y c p (sk t) (rd t) (rd_lt t)]; exact Finset.mem_singleton_self _) (by rw [duties_v]; exact Finset.mem_singleton_self _)
    () () (N p) (N_slot p _) (amount_s X Y c p (sk t) (rd t) 0) (amount_v X Y (oth p t c) p t 0 0) (owedL c l) rfl (W := W)
    (by rw [payload_s, tagOf_eq]; unfold payS; rw [if_pos ht])
    (by
      rw [payload_v]; unfold payV; rw [dif_pos ht, oth_oth, rcvB_oth]; unfold slt blkA owns ownsSat
      iintro ⟨Hd, Hs⟩
      isplitl [Hd]
      · iexists _; isplitr
        · ipureintro; exact (View.read_write_univ fd _).trans hfs
        · iexact Hd
      · iexists fs; isplitr
        · ipureintro; trivial
        · iexact Hs)) $$ [Hb Hs HO HtS HtV]
  · isplitr; · iapply (inv_at X Y K (c, some (.inl (p, sk t)))); iexact HC
    isplitr; · iapply (inv_at X Y K (oth p t c, some (.inr (p, t)))); iexact HC
    isplitl [Hb]; · iexact Hb
    isplitl [Hs]; · iexact Hs
    isplitl [HO]; · iexact HO
    isplitl [HtS]; · iexact HtS
    isplitr; · iexact HrS
    isplitl [HtV]; · iexact HtV
    iapply (reached_at X Y K (oth p t c, some (.inr (p, t)))); iexact HC
  iintro ⟨Hc, HO⟩
  iapply Hk
  unfold sBusy
  isplitl [Hat Hc]
  · isplitl [Hat] <;> iassumption
  iexists W; iexact HO

/-- A transfer of the reduction is issued: its slot at the partner was the device's to fill; the block
    goes with it. -/
theorem wp_send_rs (p : Fin 3) (t : Fin 14) (ht : t.val < 7) (l : List (Fin 3 × Fin 14)) (k : PG F) :
    iprop(ctx X Y K ∗ tok c p t ∗ sFree c p (sk t) (rd t) ∗ blk c p (srcB p t c) fullShare (VT X Y p t c (srcB p t c))
        ∗ sltA (oth p t c) p ⟨t.val, ht⟩ ∗ ow c ((p, t) :: l))
      ⊢ iprop(((sBusy c p (sk t) (rd t) ∗ ow c l) -∗ WP c k Q) -∗ WP c (sendI p t c k) Q) :=
  wp_send_rs' X Y K c Q p t ht l (outS_eq p (msk t) c) (dif_pos ht) (devT_eq p t c) (fun _ => k)

/-- A transfer of a finished block, its operands by equations. -/
theorem wp_send_ag' (p : Fin 3) (t : Fin 14) (ht : ¬ t.val < 7) (l : List (Fin 3 × Fin 14))
    {src dst : Memref sig .tc .vmem (T p) .f32} {n : Dev nD} (hs : src = outB p (srcB p t c)) (hd : dst = outB p (srcB p t c)) (hn : n = oth p t c)
    {hsc : (dst : Memref sig (Dev.tc n : Thread nD τ).2.kind .vmem (T p) .f32).view.ref.isScScratch = false}
    {hsrc : src.view.WordExact} {hdst : (dst : Memref sig (Dev.tc n : Thread nD τ).2.kind .vmem (T p) .f32).view.WordExact}
    {hsem : DmaTarget.Typed .vmem (.dma (rsem p t)) (.remote (Dev.tc n : Thread nD τ) (dst : Memref sig (Dev.tc n : Thread nD τ).2.kind .vmem (T p) .f32) (.dma (ssem p (sk t))) hsc)}
    (k : PUnit → PG F) :
    iprop(ctx X Y K ∗ tok c p t ∗ sFree c p (sk t) (rd t) ∗ blk c p (srcB p t c) (sh t) (FF X Y p (srcB p t c))
        ∗ blkA (oth p t c) p (srcB p t c) ∗ ow c ((p, t) :: l))
      ⊢ iprop(((sBusy c p (sk t) (rd t) ∗ ow c l) -∗ WP c (k ⟨⟩) Q)
          -∗ WP c (.op (.enqueueDma src (.remote (Dev.tc n : Thread nD τ) dst (.dma (ssem p (sk t))) hsc) (.dma (rsem p t)) hsrc hdst hsem) k) Q) := by
  subst hs hd hn
  unfold tok sFree ow blk blkA owns ownsSat
  iintro ⟨#HC, ⟨HtS, HtV⟩, ⟨Hat, #HrS⟩, ⟨%fs, %hfs, Hb⟩, ⟨%fd, -, Hs⟩, ⟨%W, HO⟩⟩ Hk
  iapply (Rounds.wp_send_pointsTo 𝒱₀ ER (Rd X Y) (c : Thread nD τ) none (c' := (Dev.tc (oth p t c) : Thread nD τ))
    (src := outB p (srcB p t c)) (dst := outB p (srcB p t c)) (sS := .dma (ssem p (sk t))) (sem := .dma (rsem p t))
    (κ₁ := K (c, some (.inl (p, sk t)))) (κ₂ := K (oth p t c, some (.inr (p, t)))) (r₁ := rd t) (r₂ := 0) (d₁ := 0) (d₂ := 0) (fd := fd) (fs := fs) (q := sh t)
    (by rw [duties_s X Y c p (sk t) (rd t) (rd_lt t)]; exact Finset.mem_singleton_self _) (by rw [duties_v]; exact Finset.mem_singleton_self _)
    () () (N p) (N_outB p _) (amount_s X Y c p (sk t) (rd t) 0) (amount_v X Y (oth p t c) p t 0 0) (owedL c l) rfl (W := W)
    (by
      rw [payload_s, tagOf_eq]; unfold payS; rw [if_neg ht]; unfold blk owns
      iintro H; iexists fs; isplitr
      · ipureintro; exact hfs
      · iexact H)
    (by
      rw [payload_v]; unfold payV; rw [dif_neg ht, rcvB_oth]; unfold blk owns
      iintro Hd
      iexists _; isplitr
      · ipureintro; exact (View.read_write_univ fd _).trans hfs
      · iexact Hd)) $$ [Hb Hs HO HtS HtV]
  · isplitr; · iapply (inv_at X Y K (c, some (.inl (p, sk t)))); iexact HC
    isplitr; · iapply (inv_at X Y K (oth p t c, some (.inr (p, t)))); iexact HC
    isplitl [Hb]; · iexact Hb
    isplitl [Hs]; · iexact Hs
    isplitl [HO]; · iexact HO
    isplitl [HtS]; · iexact HtS
    isplitr; · iexact HrS
    isplitl [HtV]; · iexact HtV
    iapply (reached_at X Y K (oth p t c, some (.inr (p, t)))); iexact HC
  iintro ⟨Hc, HO⟩
  iapply Hk
  unfold sBusy
  isplitl [Hat Hc]
  · isplitl [Hat] <;> iassumption
  iexists W; iexact HO

/-- A finished block is sent: the partner's block was the device's to fill; the share comes back. -/
theorem wp_send_ag (p : Fin 3) (t : Fin 14) (ht : ¬ t.val < 7) (l : List (Fin 3 × Fin 14)) (k : PG F) :
    iprop(ctx X Y K ∗ tok c p t ∗ sFree c p (sk t) (rd t) ∗ blk c p (srcB p t c) (sh t) (FF X Y p (srcB p t c))
        ∗ blkA (oth p t c) p (srcB p t c) ∗ ow c ((p, t) :: l))
      ⊢ iprop(((sBusy c p (sk t) (rd t) ∗ ow c l) -∗ WP c k Q) -∗ WP c (sendI p t c k) Q) :=
  wp_send_ag' X Y K c Q p t ht l (outS_eq p (msk t) c) ((dif_neg ht).trans (outS_eq p (msk t) c)) (devT_eq p t c) (fun _ => k)

theorem N_land (p : Fin 3) (t : Fin 14) : (land p t c).view.dmaCredit = N p := by
  unfold land; split
  · exact N_slot p _
  · rw [outS_eq]
theorem N_outS (p : Fin 3) (m : Fin 8) : (outS p m c).view.dmaCredit = N p := by rw [outS_eq]

/-- An arrival is awaited: what it hands over is the device's. -/
theorem wp_waitV (p : Fin 3) (t : Fin 14) (l : List (Fin 3 × Fin 14)) (hl : ∀ x ∈ l, lvl t < lvl x.2) (k : PG F) :
    iprop(ctx X Y K ∗ vPend c p t ∗ ow c l)
      ⊢ iprop(((vDone c p t ∗ payV X Y c p t ∗ ow c l) -∗ WP c k Q) -∗ WP c (waitV p t c k) Q) := by
  unfold vPend ow waitV
  iintro ⟨#HC, ⟨Hat, Hc⟩, ⟨%W, HO⟩⟩ Hk
  iapply (Rounds.wp_wait_rest_token 𝒱₀ ER (Rd X Y) (c : Thread nD τ) none (κ := K (c, some (.inr (p, t))))
      (wpE_waitDma2_eq 𝒱₀ (c : Thread nD τ) none Set.univ) (Set.mem_univ _) () (O := owedL c l) (W := W) (R := 0) (m := 0) (T := ∅)
      (by rw [Nat.zero_add, expect_v])) $$ [Hc HO Hat]
  · isplitr; · iapply (inv_at X Y K (c, some (.inr (p, t)))); iexact HC
    isplitl [Hc]; · rw [N_land c p t]; iexact Hc
    isplitl [HO]; · iexact HO
    isplitr; · iapply (mayWait c (.dma (rsem p t)) l (by rw [dec_v]; exact hl)); iapply (lev_at X Y K); iexact HC
    iexact Hat
  iintro ⟨HO, Hat, -, Hpay⟩
  ihave Hp := (Entails.of_eq (rest_v X Y c p t)) $$ Hpay
  iapply Hk
  unfold vDone
  isplitl [Hat]; · iexact Hat
  isplitl [Hp]; · iexact Hp
  iexists _; iexact HO

/-- A departure is awaited: on the way back, the share sent with is the device's again. -/
theorem wp_waitS (p : Fin 3) (t : Fin 14) (l : List (Fin 3 × Fin 14)) (hl : ∀ x ∈ l, 0 < lvl x.2) (k : PG F) :
    iprop(ctx X Y K ∗ sBusy c p (sk t) (rd t) ∗ ow c l)
      ⊢ iprop(((sFree c p (sk t) (rd t + 1) ∗ payS X Y c p t ∗ ow c l) -∗ WP c k Q) -∗ WP c (waitS p t c k) Q) := by
  unfold sBusy ow waitS
  iintro ⟨#HC, ⟨Hat, Hc⟩, ⟨%W, HO⟩⟩ Hk
  iapply (Rounds.wp_wait_rest_token 𝒱₀ ER (Rd X Y) (c : Thread nD τ) none (κ := K (c, some (.inl (p, sk t))))
      (wpE_waitDma2_eq 𝒱₀ (c : Thread nD τ) none Set.univ) (Set.mem_univ _) () (O := owedL c l) (W := W) (R := rd t) (m := 0) (T := ∅)
      (by rw [Nat.zero_add, expect_s X Y c p (sk t) (rd t) (rd_lt t)])) $$ [Hc HO Hat]
  · isplitr; · iapply (inv_at X Y K (c, some (.inl (p, sk t)))); iexact HC
    isplitl [Hc]; · rw [N_outS c p (msk t)]; iexact Hc
    isplitl [HO]; · iexact HO
    isplitr; · iapply (mayWait c (.dma (ssem p (sk t))) l (by rw [dec_s]; exact hl)); iapply (lev_at X Y K); iexact HC
    iexact Hat
  iintro ⟨HO, Hat, #Hr, Hpay⟩
  ihave Hp := (Entails.of_eq ((rest_s X Y c p (sk t) (rd t) (rd_lt t)).trans (by rw [tagOf_eq]))) $$ Hpay
  iapply Hk
  unfold sFree
  isplitl [Hat]
  · isplitl [Hat]; · iexact Hat
    iexact Hr
  isplitl [Hp]; · iexact Hp
  iexists _; iexact HO

/-- A block is updated, the offset by an equation. -/
theorem wp_upd' (p : Fin 3) (f : Vec F (T p) .f32 → Vec F (T p) .f32 → Vec F (T p) .f32) (b : Fin 8) (s : Fin 7)
    (v w : Vec F (T p) .f32) (k : PG F) {off : Fin 2 → ℕ} (ho : off = ![128 * b.val, col0 p])
    (h : ∀ a, off a + (T p).size a ≤ S1024x1024.size a) :
    iprop(blk c p b fullShare v ∗ slt c p s w)
      ⊢ iprop(((blk c p b fullShare (f v w) ∗ slt c p s w) -∗ WP c k Q) -∗ WP c
        (.op (.load oM (Rect.unit (s := S1024x1024) off (T p).size h).toLoadRect (View.loadsAt_vmem (T_pos p))) fun v =>
         .op (.load (sM p) (Rect.unit (s := TS p) ![128 * s.val, 0] (T p).size (slot_inb p s)).toLoadRect (View.loadsAt_vmem (T_pos p))) fun w =>
         .op (.load oM (Rect.unit (s := S1024x1024) off (T p).size h).toLoadRect (View.loadsAt_vmem (T_pos p))) fun _ =>
         .op (.store oM (Rect.unit (s := S1024x1024) off (T p).size h) (f v w) Finset.univ (View.stores_vmem_bits_univ (T_pos p) rfl) (.inl rfl)) fun _ => k) Q) := by
  subst ho
  unfold blk slt owns
  iintro ⟨⟨%fb, %hb, Hb⟩, ⟨%fs, %hs, Hs⟩⟩ Hk
  iapply (wp_load_rect 𝒱₀ (c : Thread nD τ) none Set.univ (m := oM) (r := Rect.unit (s := S1024x1024) ![128 * b.val, col0 p] (T p).size h) (S := ((oM.access (Rect.unit (s := S1024x1024) ![128 * b.val, col0 p] (T p).size h)).set)) subset_rfl) $$ Hb; iintro Hb
  iapply (wp_load_rect 𝒱₀ (c : Thread nD τ) none Set.univ (m := sM p) (r := Rect.unit (s := TS p) ![128 * s.val, 0] (T p).size (slot_inb p s)) (S := (((sM p).access (Rect.unit (s := TS p) ![128 * s.val, 0] (T p).size (slot_inb p s))).set)) subset_rfl) $$ Hs; iintro Hs
  iapply (wp_load_rect 𝒱₀ (c : Thread nD τ) none Set.univ (m := oM) (r := Rect.unit (s := S1024x1024) ![128 * b.val, col0 p] (T p).size h) (S := ((oM.access (Rect.unit (s := S1024x1024) ![128 * b.val, col0 p] (T p).size h)).set)) subset_rfl) $$ Hb; iintro Hb
  iapply (wp_store 𝒱₀ (c : Thread nD τ) none Set.univ (m := oM) (r := Rect.unit (s := S1024x1024) ![128 * b.val, col0 p] (T p).size h) (Mk := Finset.univ) (S := ((oM.access (Rect.unit (s := S1024x1024) ![128 * b.val, col0 p] (T p).size h)).set)) subset_rfl) $$ Hb; iintro Hb
  iapply Hk
  isplitl [Hb]
  · iexists ((outB p b).view.write (Elt F) fb (f ((outB p b).view.read (Elt F) fb) ((slot p s).view.read (Elt F) fs)) Finset.univ); isplitr
    · ipureintro
      exact (View.read_write_univ fb _).trans (congrArg₂ f hb hs)
    · iexact Hb
  · iexists fs; isplitr
    · ipureintro; exact hs
    · iexact Hs

/-- A block is updated by `f` of itself and a slot. -/
theorem wp_upd (p : Fin 3) (f : Vec F (T p) .f32 → Vec F (T p) .f32 → Vec F (T p) .f32) (m : Fin 4) (s : Fin 7)
    (v w : Vec F (T p) .f32) (k : PG F) :
    iprop(blk c p (ab p c (m.castLE (by decide))) fullShare v ∗ slt c p s w)
      ⊢ iprop(((blk c p (ab p c (m.castLE (by decide))) fullShare (f v w) ∗ slt c p s w) -∗ WP c k Q) -∗ WP c (updI p f m s c k) Q) :=
  wp_upd' c Q p f _ s v w k (aOff_eq p m c) (aOff_inb p m c)

/-! ## The same rules, a transfer's constants given by equations -/

theorem slt_any (p : Fin 3) (s : Fin 7) (v : Vec F (T p) .f32) : slt c p s v ⊢ sltA (F := F) c p s := by
  unfold slt sltA owns ownsSat
  iintro ⟨%f, -, H⟩
  iexists f; isplitr
  · ipureintro; trivial
  · iexact H

theorem FF_own (p : Fin 3) : FF X Y p (ab p c 0) = A3 X Y p c (ab p c 0) := by
  unfold FF; rw [ab_zero, owner_own]

theorem send_rs (p : Fin 3) (t : Fin 14) (s : Fin 7) (m : Fin 8) (j : Fin 3) (n : Fin 4) (r : ℕ) (v : Vec F (T p) .f32)
    (e : t.val = s.val ∧ msk t = m ∧ stg t = j ∧ sk t = n ∧ rd t = r) (hv : VT X Y p t c (ab p c m) = v)
    (l : List (Fin 3 × Fin 14)) (k : PG F) :
    iprop(ctx X Y K ∗ tok c p t ∗ sFree c p n r ∗ blk c p (ab p c m) fullShare v ∗ sltA (peer p j c) p s ∗ ow c ((p, t) :: l))
      ⊢ iprop(((sBusy c p n r ∗ ow c l) -∗ WP c k Q) -∗ WP c (sendI p t c k) Q) := by
  obtain ⟨hs, rfl, rfl, rfl, rfl⟩ := e
  have ht : t.val < 7 := by omega
  obtain rfl : s = ⟨t.val, ht⟩ := Fin.ext hs.symm
  subst hv
  exact wp_send_rs X Y K c Q p t ht l k

theorem send_ag (p : Fin 3) (t : Fin 14) (m : Fin 8) (j : Fin 3) (n : Fin 4) (r : ℕ) (q : PosShare TreeShare)
    (e : ¬ t.val < 7 ∧ msk t = m ∧ stg t = j ∧ sk t = n ∧ rd t = r) (hq : sh t = q)
    (l : List (Fin 3 × Fin 14)) (k : PG F) :
    iprop(ctx X Y K ∗ tok c p t ∗ sFree c p n r ∗ blk c p (ab p c m) q (FF X Y p (ab p c m)) ∗ blkA (peer p j c) p (ab p c m) ∗ ow c ((p, t) :: l))
      ⊢ iprop(((sBusy c p n r ∗ ow c l) -∗ WP c k Q) -∗ WP c (sendI p t c k) Q) := by
  obtain ⟨hs, rfl, rfl, rfl, rfl⟩ := e
  subst hq
  exact wp_send_ag X Y K c Q p t hs l k

/-- A departure of the reduction is awaited; nothing comes back. -/
theorem left_rs (p : Fin 3) (t : Fin 14) (n : Fin 4) (r : ℕ) (e : t.val < 7 ∧ sk t = n ∧ rd t = r)
    (l : List (Fin 3 × Fin 14)) (hl : ∀ x ∈ l, 0 < lvl x.2) (k : PG F) :
    iprop(ctx X Y K ∗ sBusy c p n r ∗ ow c l)
      ⊢ iprop(((sFree c p n (r + 1) ∗ ow c l) -∗ WP c k Q) -∗ WP c (waitS p t c k) Q) := by
  obtain ⟨ht, rfl, rfl⟩ := e
  iintro H Hk
  iapply (wp_waitS X Y K c Q p t l hl k) $$ H
  iintro ⟨H1, -, H2⟩
  iapply Hk
  isplitl [H1] <;> iassumption

/-- A departure of a finished block is awaited; the share comes back. -/
theorem left_ag (p : Fin 3) (t : Fin 14) (m : Fin 8) (n : Fin 4) (r : ℕ) (q : PosShare TreeShare)
    (e : ¬ t.val < 7 ∧ msk t = m ∧ sk t = n ∧ rd t = r) (hq : sh t = q)
    (l : List (Fin 3 × Fin 14)) (hl : ∀ x ∈ l, 0 < lvl x.2) (k : PG F) :
    iprop(ctx X Y K ∗ sBusy c p n r ∗ ow c l)
      ⊢ iprop(((sFree c p n (r + 1) ∗ blk c p (ab p c m) q (FF X Y p (ab p c m)) ∗ ow c l) -∗ WP c k Q) -∗ WP c (waitS p t c k) Q) := by
  obtain ⟨ht, rfl, rfl, rfl⟩ := e
  subst hq
  refine (wp_waitS X Y K c Q p t l hl k).trans ?_
  unfold payS; rw [if_neg ht]

/-- A finished block's arrival is awaited. -/
theorem recv_ag (p : Fin 3) (t : Fin 14) (m : Fin 8) (e : ¬ t.val < 7 ∧ msk t ^^^ bit (stg t) = m)
    (l : List (Fin 3 × Fin 14)) (hl : ∀ x ∈ l, lvl t < lvl x.2) (k : PG F) :
    iprop(ctx X Y K ∗ vPend c p t ∗ ow c l)
      ⊢ iprop(((vDone c p t ∗ blk c p (ab p c m) fullShare (FF X Y p (ab p c m)) ∗ ow c l) -∗ WP c k Q) -∗ WP c (waitV p t c k) Q) := by
  obtain ⟨ht, rfl⟩ := e
  refine (wp_waitV X Y K c Q p t l hl k).trans ?_
  unfold payV; rw [dif_neg ht]

/-- An arrival of the reduction is awaited, and the block it completes updated by it: the slot is idle
    again, and the partner's block is the device's to fill on the way back. -/
theorem recv_upd (p : Fin 3) (t : Fin 14) (f : Vec F (T p) .f32 → Vec F (T p) .f32 → Vec F (T p) .f32) (m' : Fin 4) (s : Fin 7) (m : Fin 8) (j : Fin 3)
    (e : t.val = s.val ∧ m'.castLE (by decide) = m ∧ msk t ^^^ bit (stg t) = m ∧ stg t = j) (v v' : Vec F (T p) .f32)
    (hv : f v (VT X Y p t (peer p j c) (ab p c m)) = v')
    (l : List (Fin 3 × Fin 14)) (hl : ∀ x ∈ l, lvl t < lvl x.2) (k : PG F) :
    iprop(ctx X Y K ∗ vPend c p t ∗ blk c p (ab p c m) fullShare v ∗ ow c l)
      ⊢ iprop(((vDone c p t ∗ sltA c p s ∗ blkA (peer p j c) p (ab p c m) ∗ blk c p (ab p c m) fullShare v' ∗ ow c l) -∗ WP c k Q)
          -∗ WP c (waitV p t c <| updI p f m' s c k) Q) := by
  obtain ⟨hs, hm', hm, rfl⟩ := e
  have ht : t.val < 7 := by omega
  obtain rfl : s = ⟨t.val, ht⟩ := Fin.ext hs.symm
  subst hm' hv
  have hr : rcvB p t c = ab p c (m'.castLE (by decide)) := by unfold rcvB; rw [hm]
  have h := wp_waitV X Y K c Q p t l hl (updI p f m' ⟨t.val, ht⟩ c k)
  rw [payV, dif_pos ht, hr] at h
  iintro ⟨#HC, Hv, Hb, HO⟩ Hk
  iapply h $$ [Hv HO]
  · isplitr; · iexact HC
    isplitl [Hv] <;> iassumption
  iintro ⟨Hv, ⟨Hs, Ha⟩, HO⟩
  iapply (wp_upd c Q p f m' ⟨t.val, ht⟩ v _ k) $$ [Hb Hs]
  · isplitl [Hb] <;> iassumption
  iintro ⟨Hb, Hs⟩
  iapply Hk
  isplitl [Hv]; · iexact Hv
  isplitl [Hs]; · iapply (slt_any c p _ _); iexact Hs
  isplitl [Ha]; · iexact Ha
  isplitl [Hb]; · iexact Hb
  iexact HO

end Rules

end Cert.AllReduceProof

end
-- ==== Proof.AllReduce.Stages.lean ====
/-
# The stages of one part

What a device holds of one part between its stages, and each stage as a rule: from what the stage before
leaves to what the next one starts from. The parts differ in nothing here but their number.
-/
module

public import proofs.«01_k».proof.Proof.AllReduce.Ops

@[expose] public section

noncomputable section

namespace Cert.AllReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Stages

variable (X : Dev nD → Vec F S1024x128 .f32) (Y : Dev nD → Vec F S128x1024 .f32)
variable (K : Dev nD × CK → ℕ) (c : Dev nD) (p : Fin 3)

/-! ## What is held between the stages -/

/-- The block of mask `m`, at the device's own product; finished. -/
def b0 (m : Fin 8) : sProp 𝕄 := blk c p (ab p c m) fullShare (A0 X Y p c (ab p c m))
def bF (m : Fin 8) (q : PosShare TreeShare) : sProp 𝕄 := blk c p (ab p c m) q (FF X Y p (ab p c m))

/-- What the stages from each on have untouched before them. -/
def TV : sProp 𝕄 := iprop(vPend c p 10 ∗ vPend c p 11 ∗ vPend c p 12 ∗ vPend c p 13)
def T9 : sProp 𝕄 := iprop(vPend c p 9 ∗ tok c p 13 ∗ TV (F := F) c p)
def T8 : sProp 𝕄 := iprop(vPend c p 8 ∗ tok c p 12 ∗ T9 (F := F) c p)
def T7 : sProp 𝕄 := iprop(vPend c p 7 ∗ tok c p 9 ∗ tok c p 11 ∗ T8 (F := F) c p)
def T6 : sProp 𝕄 := iprop(vPend c p 6 ∗ tok c p 7 ∗ tok c p 8 ∗ tok c p 10 ∗ T7 (F := F) c p)
def T5 : sProp 𝕄 := iprop(vPend c p 5 ∗ T6 (F := F) c p)
def T3 : sProp 𝕄 := iprop(vPend c p 3 ∗ b0 X Y c p 0 ∗ T5 (F := F) c p)
def T4 : sProp 𝕄 := iprop(vPend c p 4 ∗ tok c p 6 ∗ sltA (F := F) (peer p 2 c) p 6 ∗ T3 X Y c p)
def T2 : sProp 𝕄 := iprop(vPend c p 2 ∗ b0 X Y c p 1 ∗ T4 X Y c p)
def T1 : sProp 𝕄 := iprop(vPend c p 1 ∗ b0 X Y c p 2 ∗ tok c p 5 ∗ sltA (F := F) (peer p 1 c) p 5 ∗ T2 X Y c p)
def T0 : sProp 𝕄 := iprop(vPend c p 0 ∗ b0 X Y c p 3 ∗ tok c p 4 ∗ sltA (F := F) (peer p 1 c) p 4 ∗ T1 X Y c p)
/-- What the first stage starts from. -/
def EU : sProp 𝕄 :=
  iprop((tok c p 0 ∗ sFree c p 0 0 ∗ b0 X Y c p 7 ∗ sltA (F := F) (peer p 0 c) p 0)
    ∗ (tok c p 1 ∗ sFree c p 1 0 ∗ b0 X Y c p 6 ∗ sltA (F := F) (peer p 0 c) p 1)
    ∗ (tok c p 2 ∗ sFree c p 2 0 ∗ b0 X Y c p 5 ∗ sltA (F := F) (peer p 0 c) p 2)
    ∗ (tok c p 3 ∗ sFree c p 3 0 ∗ b0 X Y c p 4 ∗ sltA (F := F) (peer p 0 c) p 3) ∗ T0 X Y c p)

/-- The send semaphores in use, at these rounds. -/
def busy (r₀ r₁ r₂ r₃ : ℕ) : sProp 𝕄 := iprop(sBusy c p 0 r₀ ∗ sBusy c p 1 r₁ ∗ sBusy c p 2 r₂ ∗ sBusy c p 3 r₃)

/-- A partner's block that is the device's to fill. -/
def gr (j : Fin 3) (m : Fin 8) : sProp 𝕄 := blkA (F := F) (peer p j c) p (ab p c m)
def G0 : sProp 𝕄 := gr (F := F) c p 0 3
def G1 : sProp 𝕄 := iprop(gr (F := F) c p 0 2 ∗ G0 (F := F) c p)
def G2 : sProp 𝕄 := iprop(gr (F := F) c p 0 1 ∗ G1 (F := F) c p)
def G4 : sProp 𝕄 := iprop(gr (F := F) c p 1 1 ∗ G2 (F := F) c p)
def G3 : sProp 𝕄 := iprop(gr (F := F) c p 0 0 ∗ G4 (F := F) c p)
def G5 : sProp 𝕄 := iprop(gr (F := F) c p 1 0 ∗ G3 (F := F) c p)

/-- An arrival awaited, its slot idle again. -/
def don (t : Fin 14) (s : Fin 7) : sProp 𝕄 := iprop(vDone c p t ∗ sltA (F := F) c p s)
def H0 : sProp 𝕄 := don (F := F) c p 0 0
def H1 : sProp 𝕄 := iprop(don (F := F) c p 1 1 ∗ H0 (F := F) c p)
def H2 : sProp 𝕄 := iprop(don (F := F) c p 2 2 ∗ H1 (F := F) c p)
def H4 : sProp 𝕄 := iprop(don (F := F) c p 4 4 ∗ H2 (F := F) c p)
def H3 : sProp 𝕄 := iprop(don (F := F) c p 3 3 ∗ H4 (F := F) c p)
def H5 : sProp 𝕄 := iprop(don (F := F) c p 5 5 ∗ H3 (F := F) c p)
def H6 : sProp 𝕄 := iprop(don (F := F) c p 6 6 ∗ H5 (F := F) c p)
def H7 : sProp 𝕄 := iprop(vDone c p 7 ∗ H6 (F := F) c p)
def H8 : sProp 𝕄 := iprop(vDone c p 8 ∗ H7 (F := F) c p)
def H9 : sProp 𝕄 := iprop(vDone c p 9 ∗ H8 (F := F) c p)
def HV : sProp 𝕄 := iprop((vDone c p 10 ∗ vDone c p 11 ∗ vDone c p 12 ∗ vDone c p 13) ∗ H9 (F := F) c p)

def E0 : sProp 𝕄 := iprop(T0 X Y c p ∗ busy c p 0 0 0 0)
def E1 : sProp 𝕄 := iprop(T1 X Y c p ∗ busy c p 1 0 0 0 ∗ G0 (F := F) c p ∗ H0 (F := F) c p)
def E2 : sProp 𝕄 := iprop(T2 X Y c p ∗ busy c p 1 1 0 0 ∗ G1 (F := F) c p ∗ H1 (F := F) c p)
def E4 : sProp 𝕄 := iprop(T4 X Y c p ∗ busy c p 1 1 0 0 ∗ G2 (F := F) c p ∗ H2 (F := F) c p ∗ blk c p (ab p c 1) fullShare (A1 X Y p c (ab p c 1)))
def E3 : sProp 𝕄 := iprop(T3 X Y c p ∗ busy c p 1 1 1 0 ∗ G4 (F := F) c p ∗ H4 (F := F) c p)
def E5 : sProp 𝕄 := iprop(T5 (F := F) c p ∗ busy c p 1 1 1 0 ∗ G3 (F := F) c p ∗ H3 (F := F) c p ∗ blk c p (ab p c 0) fullShare (A1 X Y p c (ab p c 0)))
def E6 : sProp 𝕄 := iprop(T6 (F := F) c p ∗ busy c p 1 1 1 0 ∗ G5 (F := F) c p ∗ H5 (F := F) c p ∗ blk c p (ab p c 0) fullShare (A2 X Y p c (ab p c 0)))
def E7 : sProp 𝕄 := iprop(T7 (F := F) c p ∗ busy c p 2 2 1 1 ∗ G4 (F := F) c p ∗ H6 (F := F) c p)
def E8 : sProp 𝕄 := iprop(T8 (F := F) c p ∗ busy c p 2 2 2 2 ∗ G1 (F := F) c p ∗ H7 (F := F) c p ∗ bF X Y c p 0 fullShare.left)
def E9 : sProp 𝕄 := iprop(T9 (F := F) c p ∗ busy c p 3 2 2 2 ∗ G0 (F := F) c p ∗ H8 (F := F) c p ∗ bF X Y c p 0 fullShare.left ∗ bF X Y c p 0 fullShare.right.left)
def EV : sProp 𝕄 := iprop(TV (F := F) c p ∗ busy c p 3 3 2 2 ∗ H9 (F := F) c p ∗ bF X Y c p 0 fullShare)
def ES : sProp 𝕄 := iprop(busy c p 3 3 2 2 ∗ HV (F := F) c p ∗ bF X Y c p 0 fullShare
  ∗ bF X Y c p 4 fullShare ∗ bF X Y c p 5 fullShare ∗ bF X Y c p 6 fullShare ∗ bF X Y c p 7 fullShare)
/-- What the last stage leaves. -/
def EE : sProp 𝕄 := iprop((sFree c p 0 4 ∗ sFree c p 1 4 ∗ sFree c p 2 3 ∗ sFree c p 3 3) ∗ HV (F := F) c p
  ∗ bF X Y c p 0 fullShare ∗ bF X Y c p 1 fullShare ∗ bF X Y c p 2 fullShare ∗ bF X Y c p 3 fullShare
  ∗ bF X Y c p 4 fullShare ∗ bF X Y c p 5 fullShare ∗ bF X Y c p 6 fullShare ∗ bF X Y c p 7 fullShare)

variable (Q : PUnit.{1} → sProp (MT nD τ sig Unit (Elt F) ℕ UU ℕ)) (l : List (Fin 3 × Fin 14)) (k : PG F)

theorem sub {n : ℕ} {x : Fin 3 × Fin 14} {l : List (Fin 3 × Fin 14)} (h : ∀ y ∈ x :: l, n < lvl y.2) : ∀ y ∈ l, n < lvl y.2 :=
  fun y hy => h y (List.mem_cons_of_mem _ hy)
theorem pos {n : ℕ} {l : List (Fin 3 × Fin 14)} (h : ∀ y ∈ l, n < lvl y.2) : ∀ y ∈ l, 0 < lvl y.2 :=
  fun y hy => Nat.zero_lt_of_lt (h y hy)

/-- The four blocks the first partner completes are sent to it. -/
theorem stU_spec : iprop(ctx X Y K ∗ EU X Y c p ∗ ow c ((p, 0) :: (p, 1) :: (p, 2) :: (p, 3) :: l))
    ⊢ iprop(((E0 X Y c p ∗ ow c l) -∗ WP c k Q) -∗ WP c (stU p c k) Q) := by
  unfold EU E0 stU busy b0
  iintro ⟨#HC, ⟨⟨Ht0, Hf0, Hb0, Hs0⟩, ⟨Ht1, Hf1, Hb1, Hs1⟩, ⟨Ht2, Hf2, Hb2, Hs2⟩, ⟨Ht3, Hf3, Hb3, Hs3⟩, HT⟩, HO⟩ Hk
  iapply (send_rs X Y K c Q p 0 0 7 0 0 0 _ (by decide) rfl _ _) $$ [Ht0 Hf0 Hb0 Hs0 HO]
  · isplitr; · iexact HC
    isplitl [Ht0]; · iexact Ht0
    isplitl [Hf0]; · iexact Hf0
    isplitl [Hb0]; · iexact Hb0
    isplitl [Hs0] <;> iassumption
  iintro ⟨Hf0, HO⟩
  iapply (send_rs X Y K c Q p 1 1 6 0 1 0 _ (by decide) rfl _ _) $$ [Ht1 Hf1 Hb1 Hs1 HO]
  · isplitr; · iexact HC
    isplitl [Ht1]; · iexact Ht1
    isplitl [Hf1]; · iexact Hf1
    isplitl [Hb1]; · iexact Hb1
    isplitl [Hs1] <;> iassumption
  iintro ⟨Hf1, HO⟩
  iapply (send_rs X Y K c Q p 2 2 5 0 2 0 _ (by decide) rfl _ _) $$ [Ht2 Hf2 Hb2 Hs2 HO]
  · isplitr; · iexact HC
    isplitl [Ht2]; · iexact Ht2
    isplitl [Hf2]; · iexact Hf2
    isplitl [Hb2]; · iexact Hb2
    isplitl [Hs2] <;> iassumption
  iintro ⟨Hf2, HO⟩
  iapply (send_rs X Y K c Q p 3 3 4 0 3 0 _ (by decide) rfl _ _) $$ [Ht3 Hf3 Hb3 Hs3 HO]
  · isplitr; · iexact HC
    isplitl [Ht3]; · iexact Ht3
    isplitl [Hf3]; · iexact Hf3
    isplitl [Hb3]; · iexact Hb3
    isplitl [Hs3] <;> iassumption
  iintro ⟨Hf3, HO⟩
  iapply Hk
  isplitr [HO]
  · isplitl [HT]; · iexact HT
    isplitl [Hf0]; · iexact Hf0
    isplitl [Hf1]; · iexact Hf1
    isplitl [Hf2] <;> iassumption
  iexact HO

/-- A block is completed with the first partner's and sent to the second partner. -/
theorem st0_spec (hl : ∀ x ∈ (p, 4) :: l, lvl 0 < lvl x.2) : iprop(ctx X Y K ∗ E0 X Y c p ∗ ow c ((p, 4) :: l))
    ⊢ iprop(((E1 X Y c p ∗ ow c l) -∗ WP c k Q) -∗ WP c (st0 p c k) Q) := by
  unfold E0 E1 T0 st0 busy b0 G0 gr H0 don
  iintro ⟨#HC, ⟨⟨Hv, Hb, Ht, Hs, HT⟩, ⟨Hf0, Hf⟩⟩, HO⟩ Hk
  iapply (recv_upd X Y K c Q p 0 _ 3 0 3 0 (by decide) _ _ rfl _ hl _) $$ [Hv Hb HO]
  · isplitr; · iexact HC
    isplitl [Hv]; · iexact Hv
    isplitl [Hb] <;> iassumption
  iintro ⟨Hv, Hd, Hg, Hb, HO⟩
  iapply (left_rs X Y K c Q p 0 0 0 (by decide) _ (pos hl) _) $$ [Hf0 HO]
  · isplitr; · iexact HC
    isplitl [Hf0] <;> iassumption
  iintro ⟨Hf0, HO⟩
  iapply (send_rs X Y K c Q p 4 4 3 1 0 1 _ (by decide) rfl _ _) $$ [Ht Hf0 Hb Hs HO]
  · isplitr; · iexact HC
    isplitl [Ht]; · iexact Ht
    isplitl [Hf0]; · iexact Hf0
    isplitl [Hb]; · iexact Hb
    isplitl [Hs] <;> iassumption
  iintro ⟨Hf0, HO⟩
  iapply Hk
  isplitr [HO]
  · isplitl [HT]; · iexact HT
    isplitl [Hf0 Hf]
    · isplitl [Hf0] <;> iassumption
    isplitl [Hg]; · iexact Hg
    isplitl [Hv] <;> iassumption
  iexact HO

/-- The next one likewise. -/
theorem st1_spec (hl : ∀ x ∈ (p, 5) :: l, lvl 1 < lvl x.2) : iprop(ctx X Y K ∗ E1 X Y c p ∗ ow c ((p, 5) :: l))
    ⊢ iprop(((E2 X Y c p ∗ ow c l) -∗ WP c k Q) -∗ WP c (st1 p c k) Q) := by
  unfold E1 E2 T1 st1 busy b0 G1 gr H1 don
  iintro ⟨#HC, ⟨⟨Hv, Hb, Ht, Hs, HT⟩, ⟨Hf0, Hf1, Hf⟩, HG, HH⟩, HO⟩ Hk
  iapply (recv_upd X Y K c Q p 1 _ 2 1 2 0 (by decide) _ _ rfl _ hl _) $$ [Hv Hb HO]
  · isplitr; · iexact HC
    isplitl [Hv]; · iexact Hv
    isplitl [Hb] <;> iassumption
  iintro ⟨Hv, Hd, Hg, Hb, HO⟩
  iapply (left_rs X Y K c Q p 1 1 0 (by decide) _ (pos hl) _) $$ [Hf1 HO]
  · isplitr; · iexact HC
    isplitl [Hf1] <;> iassumption
  iintro ⟨Hf1, HO⟩
  iapply (send_rs X Y K c Q p 5 5 2 1 1 1 _ (by decide) rfl _ _) $$ [Ht Hf1 Hb Hs HO]
  · isplitr; · iexact HC
    isplitl [Ht]; · iexact Ht
    isplitl [Hf1]; · iexact Hf1
    isplitl [Hb]; · iexact Hb
    isplitl [Hs] <;> iassumption
  iintro ⟨Hf1, HO⟩
  iapply Hk
  isplitr [HO]
  · isplitl [HT]; · iexact HT
    isplitl [Hf0 Hf1 Hf]
    · isplitl [Hf0]; · iexact Hf0
      isplitl [Hf1] <;> iassumption
    isplitl [Hg HG]
    · isplitl [Hg] <;> iassumption
    isplitr [HH]
    · isplitl [Hv] <;> iassumption
    iexact HH
  iexact HO

/-- The block for the third partner is completed with the first partner's. -/
theorem st2_spec (hl : ∀ x ∈ l, lvl 2 < lvl x.2) : iprop(ctx X Y K ∗ E2 X Y c p ∗ ow c l)
    ⊢ iprop(((E4 X Y c p ∗ ow c l) -∗ WP c k Q) -∗ WP c (st2 p c k) Q) := by
  unfold E2 E4 T2 st2 b0 G2 gr H2 don
  iintro ⟨#HC, ⟨⟨Hv, Hb, HT⟩, Hf, HG, HH⟩, HO⟩ Hk
  iapply (recv_upd X Y K c Q p 2 _ 1 2 1 0 (by decide) _ _ rfl _ hl _) $$ [Hv Hb HO]
  · isplitr; · iexact HC
    isplitl [Hv]; · iexact Hv
    isplitl [Hb] <;> iassumption
  iintro ⟨Hv, Hd, Hg, Hb, HO⟩
  iapply Hk
  isplitr [HO]
  · isplitl [HT]; · iexact HT
    isplitl [Hf]; · iexact Hf
    isplitl [Hg HG]
    · isplitl [Hg] <;> iassumption
    isplitr [Hb]
    · isplitr [HH]
      · isplitl [Hv] <;> iassumption
      iexact HH
    iexact Hb
  iexact HO

/-- It is completed with the second partner's, and sent to the third. -/
theorem st4_spec (hl : ∀ x ∈ (p, 6) :: l, lvl 4 < lvl x.2) : iprop(ctx X Y K ∗ E4 X Y c p ∗ ow c ((p, 6) :: l))
    ⊢ iprop(((E3 X Y c p ∗ ow c l) -∗ WP c k Q) -∗ WP c (st4 p c k) Q) := by
  unfold E4 E3 T4 st4 busy G4 gr H4 don
  iintro ⟨#HC, ⟨⟨Hv, Ht, Hs, HT⟩, ⟨Hf0, Hf1, Hf2, Hf3⟩, HG, HH, Hb⟩, HO⟩ Hk
  iapply (recv_upd X Y K c Q p 4 _ 1 4 1 1 (by decide) _ _ rfl _ hl _) $$ [Hv Hb HO]
  · isplitr; · iexact HC
    isplitl [Hv]; · iexact Hv
    isplitl [Hb] <;> iassumption
  iintro ⟨Hv, Hd, Hg, Hb, HO⟩
  iapply (left_rs X Y K c Q p 2 2 0 (by decide) _ (pos hl) _) $$ [Hf2 HO]
  · isplitr; · iexact HC
    isplitl [Hf2] <;> iassumption
  iintro ⟨Hf2, HO⟩
  iapply (send_rs X Y K c Q p 6 6 1 2 2 1 _ (by decide) rfl _ _) $$ [Ht Hf2 Hb Hs HO]
  · isplitr; · iexact HC
    isplitl [Ht]; · iexact Ht
    isplitl [Hf2]; · iexact Hf2
    isplitl [Hb]; · iexact Hb
    isplitl [Hs] <;> iassumption
  iintro ⟨Hf2, HO⟩
  iapply Hk
  isplitr [HO]
  · isplitl [HT]; · iexact HT
    isplitl [Hf0 Hf1 Hf2 Hf3]
    · isplitl [Hf0]; · iexact Hf0
      isplitl [Hf1]; · iexact Hf1
      isplitl [Hf2] <;> iassumption
    isplitl [Hg HG]
    · isplitl [Hg] <;> iassumption
    isplitr [HH]
    · isplitl [Hv] <;> iassumption
    iexact HH
  iexact HO

/-- The device's own block is completed with the first partner's, -/
theorem st3_spec (hl : ∀ x ∈ l, lvl 3 < lvl x.2) : iprop(ctx X Y K ∗ E3 X Y c p ∗ ow c l)
    ⊢ iprop(((E5 X Y c p ∗ ow c l) -∗ WP c k Q) -∗ WP c (st3 p c k) Q) := by
  unfold E3 E5 T3 st3 b0 G3 gr H3 don
  iintro ⟨#HC, ⟨⟨Hv, Hb, HT⟩, Hf, HG, HH⟩, HO⟩ Hk
  iapply (recv_upd X Y K c Q p 3 _ 0 3 0 0 (by decide) _ _ rfl _ hl _) $$ [Hv Hb HO]
  · isplitr; · iexact HC
    isplitl [Hv]; · iexact Hv
    isplitl [Hb] <;> iassumption
  iintro ⟨Hv, Hd, Hg, Hb, HO⟩
  iapply Hk
  isplitr [HO]
  · isplitl [HT]; · iexact HT
    isplitl [Hf]; · iexact Hf
    isplitl [Hg HG]
    · isplitl [Hg] <;> iassumption
    isplitr [Hb]
    · isplitr [HH]
      · isplitl [Hv] <;> iassumption
      iexact HH
    iexact Hb
  iexact HO

/-- and with the second partner's, -/
theorem st5_spec (hl : ∀ x ∈ l, lvl 5 < lvl x.2) : iprop(ctx X Y K ∗ E5 X Y c p ∗ ow c l)
    ⊢ iprop(((E6 X Y c p ∗ ow c l) -∗ WP c k Q) -∗ WP c (st5 p c k) Q) := by
  unfold E5 E6 T5 st5 G5 gr H5 don
  iintro ⟨#HC, ⟨⟨Hv, HT⟩, Hf, HG, HH, Hb⟩, HO⟩ Hk
  iapply (recv_upd X Y K c Q p 5 _ 0 5 0 1 (by decide) _ _ rfl _ hl _) $$ [Hv Hb HO]
  · isplitr; · iexact HC
    isplitl [Hv]; · iexact Hv
    isplitl [Hb] <;> iassumption
  iintro ⟨Hv, Hd, Hg, Hb, HO⟩
  iapply Hk
  isplitr [HO]
  · isplitl [HT]; · iexact HT
    isplitl [Hf]; · iexact Hf
    isplitl [Hg HG]
    · isplitl [Hg] <;> iassumption
    isplitr [Hb]
    · isplitr [HH]
      · isplitl [Hv] <;> iassumption
      iexact HH
    iexact Hb
  iexact HO

/-- and with the third partner's, activated, and sent to all three. -/
theorem st6_spec (hl : ∀ x ∈ (p, 7) :: (p, 8) :: (p, 10) :: l, lvl 6 < lvl x.2) :
    iprop(ctx X Y K ∗ E6 X Y c p ∗ ow c ((p, 7) :: (p, 8) :: (p, 10) :: l))
    ⊢ iprop(((E7 (F := F) c p ∗ ow c l) -∗ WP c k Q) -∗ WP c (st6 p c k) Q) := by
  unfold E6 E7 T6 st6 busy G5 G3 H6 don
  iintro ⟨#HC, ⟨⟨Hv, Ht7, Ht8, Ht10, HT⟩, ⟨Hf0, Hf1, Hf2, Hf3⟩, ⟨Hg8, Hg10, HG⟩, HH, Hb⟩, HO⟩ Hk
  iapply (recv_upd X Y K c Q p 6 _ 0 6 0 2 (by decide) _ (FF X Y p (ab p c 0)) (FF_own X Y c p).symm _ hl _) $$ [Hv Hb HO]
  · isplitr; · iexact HC
    isplitl [Hv]; · iexact Hv
    isplitl [Hb] <;> iassumption
  iintro ⟨Hv, Hd, Hg7, Hb, HO⟩
  ihave Hb' := (owns_halves (c : Thread nD τ) (outB p (ab p c 0)) fullShare (FF X Y p (ab p c 0))).1 $$ Hb
  icases Hb' with ⟨Hb7, Hb⟩
  ihave Hb' := (owns_halves (c : Thread nD τ) (outB p (ab p c 0)) fullShare.right (FF X Y p (ab p c 0))).1 $$ Hb
  icases Hb' with ⟨Hb8, Hb10⟩
  iapply (left_rs X Y K c Q p 3 3 0 (by decide) _ (pos hl) _) $$ [Hf3 HO]
  · isplitr; · iexact HC
    isplitl [Hf3] <;> iassumption
  iintro ⟨Hf3, HO⟩
  iapply (send_ag X Y K c Q p 7 0 2 3 1 fullShare.left (by decide) rfl _ _) $$ [Ht7 Hf3 Hb7 Hg7 HO]
  · isplitr; · iexact HC
    isplitl [Ht7]; · iexact Ht7
    isplitl [Hf3]; · iexact Hf3
    isplitl [Hb7]; · iexact Hb7
    isplitl [Hg7] <;> iassumption
  iintro ⟨Hf3, HO⟩
  iapply (left_rs X Y K c Q p 4 0 1 (by decide) _ (pos (sub hl)) _) $$ [Hf0 HO]
  · isplitr; · iexact HC
    isplitl [Hf0] <;> iassumption
  iintro ⟨Hf0, HO⟩
  unfold gr
  iapply (send_ag X Y K c Q p 8 0 1 0 2 fullShare.right.left (by decide) rfl _ _) $$ [Ht8 Hf0 Hb8 Hg8 HO]
  · isplitr; · iexact HC
    isplitl [Ht8]; · iexact Ht8
    isplitl [Hf0]; · iexact Hf0
    isplitl [Hb8]; · iexact Hb8
    isplitl [Hg8] <;> iassumption
  iintro ⟨Hf0, HO⟩
  iapply (left_rs X Y K c Q p 5 1 1 (by decide) _ (pos (sub (sub hl))) _) $$ [Hf1 HO]
  · isplitr; · iexact HC
    isplitl [Hf1] <;> iassumption
  iintro ⟨Hf1, HO⟩
  iapply (send_ag X Y K c Q p 10 0 0 1 2 fullShare.right.right (by decide) rfl _ _) $$ [Ht10 Hf1 Hb10 Hg10 HO]
  · isplitr; · iexact HC
    isplitl [Ht10]; · iexact Ht10
    isplitl [Hf1]; · iexact Hf1
    isplitl [Hb10]; · iexact Hb10
    isplitl [Hg10] <;> iassumption
  iintro ⟨Hf1, HO⟩
  iapply Hk
  isplitr [HO]
  · isplitl [HT]; · iexact HT
    isplitl [Hf0 Hf1 Hf2 Hf3]
    · isplitl [Hf0]; · iexact Hf0
      isplitl [Hf1]; · iexact Hf1
      isplitl [Hf2] <;> iassumption
    isplitl [HG]; · iexact HG
    isplitr [HH]
    · isplitl [Hv] <;> iassumption
    iexact HH
  iexact HO

/-- The third partner's finished block arrives, and is sent on to the other two. -/
theorem st7_spec (hl : ∀ x ∈ (p, 9) :: (p, 11) :: l, lvl 7 < lvl x.2) :
    iprop(ctx X Y K ∗ E7 (F := F) c p ∗ ow c ((p, 9) :: (p, 11) :: l))
    ⊢ iprop(((E8 X Y c p ∗ ow c l) -∗ WP c k Q) -∗ WP c (st7 p c k) Q) := by
  unfold E7 E8 T7 st7 busy G4 G2 gr H7 bF
  iintro ⟨#HC, ⟨⟨Hv, Ht9, Ht11, HT⟩, ⟨Hf0, Hf1, Hf2, Hf3⟩, ⟨Hg9, Hg11, HG⟩, HH⟩, HO⟩ Hk
  iapply (recv_ag X Y K c Q p 7 1 (by decide) _ hl _) $$ [Hv HO]
  · isplitr; · iexact HC
    isplitl [Hv] <;> iassumption
  iintro ⟨Hv, Hb, HO⟩
  ihave Hb' := (owns_halves (c : Thread nD τ) (outB p (ab p c 1)) fullShare (FF X Y p (ab p c 1))).1 $$ Hb
  icases Hb' with ⟨Hb9, Hb11⟩
  iapply (left_rs X Y K c Q p 6 2 1 (by decide) _ (pos hl) _) $$ [Hf2 HO]
  · isplitr; · iexact HC
    isplitl [Hf2] <;> iassumption
  iintro ⟨Hf2, HO⟩
  iapply (send_ag X Y K c Q p 9 1 1 2 2 fullShare.left (by decide) rfl _ _) $$ [Ht9 Hf2 Hb9 Hg9 HO]
  · isplitr; · iexact HC
    isplitl [Ht9]; · iexact Ht9
    isplitl [Hf2]; · iexact Hf2
    isplitl [Hb9]; · iexact Hb9
    isplitl [Hg9] <;> iassumption
  iintro ⟨Hf2, HO⟩
  iapply (left_ag X Y K c Q p 7 0 3 1 fullShare.left (by decide) rfl _ (pos (sub hl)) _) $$ [Hf3 HO]
  · isplitr; · iexact HC
    isplitl [Hf3] <;> iassumption
  iintro ⟨Hf3, Hb, HO⟩
  iapply (send_ag X Y K c Q p 11 1 0 3 2 fullShare.right (by decide) rfl _ _) $$ [Ht11 Hf3 Hb11 Hg11 HO]
  · isplitr; · iexact HC
    isplitl [Ht11]; · iexact Ht11
    isplitl [Hf3]; · iexact Hf3
    isplitl [Hb11]; · iexact Hb11
    isplitl [Hg11] <;> iassumption
  iintro ⟨Hf3, HO⟩
  iapply Hk
  isplitr [HO]
  · isplitl [HT]; · iexact HT
    isplitl [Hf0 Hf1 Hf2 Hf3]
    · isplitl [Hf0]; · iexact Hf0
      isplitl [Hf1]; · iexact Hf1
      isplitl [Hf2] <;> iassumption
    isplitl [HG]; · iexact HG
    isplitl [Hv HH]
    · isplitl [Hv] <;> iassumption
    iexact Hb
  iexact HO

/-- The second partner's finished block arrives, and is sent on to the first. -/
theorem st8_spec (hl : ∀ x ∈ (p, 12) :: l, lvl 8 < lvl x.2) : iprop(ctx X Y K ∗ E8 X Y c p ∗ ow c ((p, 12) :: l))
    ⊢ iprop(((E9 X Y c p ∗ ow c l) -∗ WP c k Q) -∗ WP c (st8 p c k) Q) := by
  unfold E8 E9 T8 st8 busy G1 gr H8 bF
  iintro ⟨#HC, ⟨⟨Hv, Ht, HT⟩, ⟨Hf0, Hf⟩, ⟨Hg, HG⟩, HH, Hb7⟩, HO⟩ Hk
  iapply (recv_ag X Y K c Q p 8 2 (by decide) _ hl _) $$ [Hv HO]
  · isplitr; · iexact HC
    isplitl [Hv] <;> iassumption
  iintro ⟨Hv, Hb, HO⟩
  iapply (left_ag X Y K c Q p 8 0 0 2 fullShare.right.left (by decide) rfl _ (pos hl) _) $$ [Hf0 HO]
  · isplitr; · iexact HC
    isplitl [Hf0] <;> iassumption
  iintro ⟨Hf0, Hb8, HO⟩
  iapply (send_ag X Y K c Q p 12 2 0 0 3 fullShare (by decide) rfl _ _) $$ [Ht Hf0 Hb Hg HO]
  · isplitr; · iexact HC
    isplitl [Ht]; · iexact Ht
    isplitl [Hf0]; · iexact Hf0
    isplitl [Hb]; · iexact Hb
    isplitl [Hg] <;> iassumption
  iintro ⟨Hf0, HO⟩
  iapply Hk
  isplitr [HO]
  · isplitl [HT]; · iexact HT
    isplitl [Hf0 Hf]
    · isplitl [Hf0] <;> iassumption
    isplitl [HG]; · iexact HG
    isplitl [Hv HH]
    · isplitl [Hv] <;> iassumption
    isplitl [Hb7] <;> iassumption
  iexact HO

/-- The last block to send on to the first partner arrives and is sent; the device's own block is whole
    again. -/
theorem st9_spec (hl : ∀ x ∈ (p, 13) :: l, lvl 9 < lvl x.2) : iprop(ctx X Y K ∗ E9 X Y c p ∗ ow c ((p, 13) :: l))
    ⊢ iprop(((EV X Y c p ∗ ow c l) -∗ WP c k Q) -∗ WP c (st9 p c k) Q) := by
  unfold E9 EV T9 st9 busy G0 gr H9 bF
  iintro ⟨#HC, ⟨⟨Hv, Ht, HT⟩, ⟨Hf0, Hf1, Hf⟩, Hg, HH, Hb7, Hb8⟩, HO⟩ Hk
  iapply (recv_ag X Y K c Q p 9 3 (by decide) _ hl _) $$ [Hv HO]
  · isplitr; · iexact HC
    isplitl [Hv] <;> iassumption
  iintro ⟨Hv, Hb, HO⟩
  iapply (left_ag X Y K c Q p 10 0 1 2 fullShare.right.right (by decide) rfl _ (pos hl) _) $$ [Hf1 HO]
  · isplitr; · iexact HC
    isplitl [Hf1] <;> iassumption
  iintro ⟨Hf1, Hb10, HO⟩
  iapply (send_ag X Y K c Q p 13 3 0 1 3 fullShare (by decide) rfl _ _) $$ [Ht Hf1 Hb Hg HO]
  · isplitr; · iexact HC
    isplitl [Ht]; · iexact Ht
    isplitl [Hf1]; · iexact Hf1
    isplitl [Hb]; · iexact Hb
    isplitl [Hg] <;> iassumption
  iintro ⟨Hf1, HO⟩
  ihave Hb := (owns_halves (c : Thread nD τ) (outB p (ab p c 0)) fullShare.right (FF X Y p (ab p c 0))).2 $$ [Hb8 Hb10]
  · isplitl [Hb8] <;> iassumption
  ihave Hb := (owns_halves (c : Thread nD τ) (outB p (ab p c 0)) fullShare (FF X Y p (ab p c 0))).2 $$ [Hb7 Hb]
  · isplitl [Hb7] <;> iassumption
  iapply Hk
  isplitr [HO]
  · isplitl [HT]; · iexact HT
    isplitl [Hf0 Hf1 Hf]
    · isplitl [Hf0]; · iexact Hf0
      isplitl [Hf1] <;> iassumption
    isplitl [Hv HH]
    · isplitl [Hv] <;> iassumption
    iexact Hb
  iexact HO

/-- The four blocks of the first partner's half arrive. -/
theorem stV_spec (hl : ∀ x ∈ l, 7 < lvl x.2) : iprop(ctx X Y K ∗ EV X Y c p ∗ ow c l)
    ⊢ iprop(((ES X Y c p ∗ ow c l) -∗ WP c k Q) -∗ WP c (stV p c k) Q) := by
  have h (t : Fin 14) : ∀ x ∈ l, lvl t < lvl x.2 := fun x hx => lt_of_le_of_lt (by revert t; decide) (hl x hx)
  unfold EV ES TV stV HV bF
  iintro ⟨#HC, ⟨⟨Hv0, Hv1, Hv2, Hv3⟩, Hf, HH, Hb⟩, HO⟩ Hk
  iapply (recv_ag X Y K c Q p 10 4 (by decide) _ (h 10) _) $$ [Hv0 HO]
  · isplitr; · iexact HC
    isplitl [Hv0] <;> iassumption
  iintro ⟨Hv0, Hb4, HO⟩
  iapply (recv_ag X Y K c Q p 11 5 (by decide) _ (h 11) _) $$ [Hv1 HO]
  · isplitr; · iexact HC
    isplitl [Hv1] <;> iassumption
  iintro ⟨Hv1, Hb5, HO⟩
  iapply (recv_ag X Y K c Q p 12 6 (by decide) _ (h 12) _) $$ [Hv2 HO]
  · isplitr; · iexact HC
    isplitl [Hv2] <;> iassumption
  iintro ⟨Hv2, Hb6, HO⟩
  iapply (recv_ag X Y K c Q p 13 7 (by decide) _ (h 13) _) $$ [Hv3 HO]
  · isplitr; · iexact HC
    isplitl [Hv3] <;> iassumption
  iintro ⟨Hv3, Hb7, HO⟩
  iapply Hk
  isplitr [HO]
  · isplitl [Hf]; · iexact Hf
    isplitl [Hv0 Hv1 Hv2 Hv3 HH]
    · isplitr [HH]
      · isplitl [Hv0]; · iexact Hv0
        isplitl [Hv1]; · iexact Hv1
        isplitl [Hv2] <;> iassumption
      iexact HH
    isplitl [Hb]; · iexact Hb
    isplitl [Hb4]; · iexact Hb4
    isplitl [Hb5]; · iexact Hb5
    isplitl [Hb6] <;> iassumption
  iexact HO

/-- The last departures are awaited: every block is the device's, finished. -/
theorem stS_spec (hl : ∀ x ∈ l, 0 < lvl x.2) : iprop(ctx X Y K ∗ ES X Y c p ∗ ow c l)
    ⊢ iprop(((EE X Y c p ∗ ow c l) -∗ WP c k Q) -∗ WP c (stS p c k) Q) := by
  unfold ES EE busy stS bF
  iintro ⟨#HC, ⟨⟨Hf0, Hf1, Hf2, Hf3⟩, HH, Hb0, Hb4, Hb5, Hb6, Hb7⟩, HO⟩ Hk
  iapply (left_ag X Y K c Q p 12 2 0 3 fullShare (by decide) rfl _ hl _) $$ [Hf0 HO]
  · isplitr; · iexact HC
    isplitl [Hf0] <;> iassumption
  iintro ⟨Hf0, Hb2, HO⟩
  iapply (left_ag X Y K c Q p 13 3 1 3 fullShare (by decide) rfl _ hl _) $$ [Hf1 HO]
  · isplitr; · iexact HC
    isplitl [Hf1] <;> iassumption
  iintro ⟨Hf1, Hb3, HO⟩
  iapply (left_ag X Y K c Q p 9 1 2 2 fullShare.left (by decide) rfl _ hl _) $$ [Hf2 HO]
  · isplitr; · iexact HC
    isplitl [Hf2] <;> iassumption
  iintro ⟨Hf2, Hbl, HO⟩
  iapply (left_ag X Y K c Q p 11 1 3 2 fullShare.right (by decide) rfl _ hl _) $$ [Hf3 HO]
  · isplitr; · iexact HC
    isplitl [Hf3] <;> iassumption
  iintro ⟨Hf3, Hbr, HO⟩
  ihave Hb1 := (owns_halves (c : Thread nD τ) (outB p (ab p c 1)) fullShare (FF X Y p (ab p c 1))).2 $$ [Hbl Hbr]
  · isplitl [Hbl] <;> iassumption
  iapply Hk
  isplitr [HO]
  · isplitl [Hf0 Hf1 Hf2 Hf3]
    · isplitl [Hf0]; · iexact Hf0
      isplitl [Hf1]; · iexact Hf1
      isplitl [Hf2] <;> iassumption
    isplitl [HH]; · iexact HH
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6] <;> iassumption
  iexact HO

end Stages

end Cert.AllReduceProof

end
-- ==== Proof.AllReduce.Blocks.lean ====
/-
# The result's buffer and the receive buffers, cut and joined

The result's buffer is three column parts of eight blocks of rows each; a receive buffer is seven slots.
The device's own product, stored in a part's columns, is its eight blocks at their first values.
-/
module

public import proofs.«01_k».proof.Proof.AllReduce.Stages

@[expose] public section

noncomputable section

namespace Cert.AllReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rectangles -/

/-- Part `p`'s columns; block `b` within them; slot `s` within a receive buffer. -/
abbrev colR (p : Fin 3) : Rect S1024x1024 := Rect.unit (s := S1024x1024) ![0, col0 p] (TC p).size (cOff_inb p)
abbrev bkR (p : Fin 3) (b : Fin 8) : Rect (TC p) := Rect.unit (s := TC p) ![128 * b.val, 0] (T p).size (blk_inb p b)
abbrev slR (p : Fin 3) (s : Fin 7) : Rect (TS p) := Rect.unit (s := TS p) ![128 * s.val, 0] (T p).size (slot_inb p s)

theorem mem_colR {p : Fin 3} {i : S1024x1024.Idx} : i ∈ (colR p).set ↔ col0 p ≤ (i 1).val ∧ (i 1).val < col0 p + wd p := by
  rw [Rect.mem_set_unit]
  constructor
  · intro h; exact h 1
  · intro h a; match a with
    | 0 => exact ⟨Nat.zero_le _, by simpa using (i 0).isLt⟩
    | 1 => exact h
theorem mem_rB {pb : Fin 3 × Fin 8} {i : S1024x1024.Idx} : i ∈ (rB pb).set ↔
    (128 * pb.2.val ≤ (i 0).val ∧ (i 0).val < 128 * pb.2.val + 128) ∧ col0 pb.1 ≤ (i 1).val ∧ (i 1).val < col0 pb.1 + wd pb.1 := by
  rw [Rect.mem_set_unit]
  exact ⟨fun h => ⟨h 0, h 1⟩, fun h a => match a with | 0 => h.1 | 1 => h.2⟩
theorem mem_bkR {p : Fin 3} {b : Fin 8} {i : (TC p).Idx} : i ∈ (bkR p b).set ↔ 128 * b.val ≤ (i 0).val ∧ (i 0).val < 128 * b.val + 128 := by
  rw [Rect.mem_set_unit]
  constructor
  · intro h; exact h 0
  · intro h a; match a with
    | 0 => exact h
    | 1 => exact ⟨Nat.zero_le _, by simpa using (i 1).isLt⟩
theorem mem_slR {p : Fin 3} {b : Fin 7} {i : (TS p).Idx} : i ∈ (slR p b).set ↔ 128 * b.val ≤ (i 0).val ∧ (i 0).val < 128 * b.val + 128 := by
  rw [Rect.mem_set_unit]
  constructor
  · intro h; exact h 0
  · intro h a; match a with
    | 0 => exact h
    | 1 => exact ⟨Nat.zero_le _, by simpa using (i 1).isLt⟩

/-- A column lies in exactly one part. -/
theorem part_unique : ∀ {p p' : Fin 3} {n : ℕ}, col0 p ≤ n → n < col0 p + wd p → col0 p' ≤ n → n < col0 p' + wd p' → p = p' := by
  intro p p' n h1 h2 h3 h4
  have h : ∀ p p' : Fin 3, p ≠ p' → col0 p + wd p ≤ col0 p' ∨ col0 p' + wd p' ≤ col0 p := by decide
  by_contra hn
  have := h p p' hn
  omega
theorem part_exists (n : ℕ) (h : n < 1024) : ∃ p : Fin 3, col0 p ≤ n ∧ n < col0 p + wd p := by
  have e0 : col0 0 = 0 ∧ col0 1 = 384 ∧ col0 2 = 768 ∧ wd 0 = 384 ∧ wd 1 = 384 ∧ wd 2 = 256 := ⟨rfl, rfl, rfl, rfl, rfl, rfl⟩
  by_cases h0 : n < 384
  · exact ⟨0, by omega, by omega⟩
  by_cases h1 : n < 768
  · exact ⟨1, by omega, by omega⟩
  · exact ⟨2, by omega, by omega⟩

theorem colR_disj (p p' : Fin 3) (h : p ≠ p') : Disjoint (colR p).set (colR p').set :=
  Finset.disjoint_left.mpr fun i hi hi' => h (part_unique (mem_colR.mp hi).1 (mem_colR.mp hi).2 (mem_colR.mp hi').1 (mem_colR.mp hi').2)
theorem colR_cov : (Finset.univ : Finset (Fin 3)).biUnion (fun p => (colR p).set) = Finset.univ := by
  refine Finset.eq_univ_iff_forall.mpr fun i => ?_
  obtain ⟨p, hp⟩ := part_exists (i 1).val (i 1).isLt
  exact Finset.mem_biUnion.mpr ⟨p, Finset.mem_univ _, mem_colR.mpr hp⟩

theorem rB_disj (t t' : Fin 3 × Fin 8) (h : t ≠ t') : Disjoint (rB t).set (rB t').set :=
  Finset.disjoint_left.mpr fun i hi hi' => h <| by
    have a := mem_rB.mp hi
    have a' := mem_rB.mp hi'
    exact Prod.ext (part_unique a.2.1 a.2.2 a'.2.1 a'.2.2) (Fin.ext (by omega))
theorem rB_cov : (Finset.univ : Finset (Fin 3 × Fin 8)).biUnion (fun t => (rB t).set) = Finset.univ := by
  refine Finset.eq_univ_iff_forall.mpr fun i => ?_
  obtain ⟨p, hp⟩ := part_exists (i 1).val (i 1).isLt
  have h0 : (i 0).val < 1024 := (i 0).isLt
  exact Finset.mem_biUnion.mpr ⟨(p, ⟨(i 0).val / 128, by omega⟩), Finset.mem_univ _, mem_rB.mpr ⟨by dsimp only; omega, hp⟩⟩

theorem bkR_disj (p : Fin 3) (b b' : Fin 8) (h : b ≠ b') : Disjoint (bkR p b).set (bkR p b').set :=
  Finset.disjoint_left.mpr fun i hi hi' => h <| by
    have a := mem_bkR.mp hi
    have a' := mem_bkR.mp hi'
    exact Fin.ext (by omega)
theorem bkR_cov (p : Fin 3) : (Finset.univ : Finset (Fin 8)).biUnion (fun b => (bkR p b).set) = Finset.univ := by
  refine Finset.eq_univ_iff_forall.mpr fun i => ?_
  have h0 : (i 0).val < 1024 := (i 0).isLt
  exact Finset.mem_biUnion.mpr ⟨⟨(i 0).val / 128, by omega⟩, Finset.mem_univ _, mem_bkR.mpr (by dsimp only; omega)⟩

theorem slR_disj (p : Fin 3) (b b' : Fin 7) (h : b ≠ b') : Disjoint (slR p b).set (slR p b').set :=
  Finset.disjoint_left.mpr fun i hi hi' => h <| by
    have a := mem_slR.mp hi
    have a' := mem_slR.mp hi'
    exact Fin.ext (by omega)
theorem slR_cov (p : Fin 3) : (Finset.univ : Finset (Fin 7)).biUnion (fun b => (slR p b).set) = Finset.univ := by
  refine Finset.eq_univ_iff_forall.mpr fun i => ?_
  have h0 : (i 0).val < 896 := (i 0).isLt
  exact Finset.mem_biUnion.mpr ⟨⟨(i 0).val / 128, by omega⟩, Finset.mem_univ _, mem_slR.mpr (by dsimp only; omega)⟩

/-! ## The receive buffers -/

section Cut

variable (X : Dev nD → Vec F S1024x128 .f32) (Y : Dev nD → Vec F S128x1024 .f32)
variable (c : Dev nD) (p : Fin 3)

/-- Part `p`'s receive buffer at some contents. -/
def scr : sProp 𝕄 := iprop(∃ f, (c : Thread nD τ).loc (sM p).view.ref ↦{fullShare} f)

theorem scr_eq : (scr (F := F) c p) ⊣⊢ ownsSat (Ix := Unit) (Name := ℕ) (U := UU) (Lvl := ℕ) (Val := Elt F) (c : Thread nD τ) (sM p) fullShare fun _ => True := by
  unfold scr ownsSat
  have h : (sM p).view.set = Finset.univ := by fin_cases p <;> exact View.set_whole _
  constructor
  · iintro ⟨%f, H⟩; iexists f; isplitr
    · ipureintro; trivial
    rw [h]; iexact H
  · iintro ⟨%f, -, H⟩; iexists f; rw [h]; iexact H

theorem scr_cut : scr (F := F) c p ⊢ bigSep Finset.univ fun s : Fin 7 => sltA (F := F) c p s :=
  (scr_eq c p).1.trans ((ownsSat_mono _ _ _ fun _ _ _ => trivial).trans
    (ownsSat_rects (c : Thread nD τ) (sM p) fullShare (slR p) (fun _ _ => rfl) (slR_disj p) (slR_cov p) fun _ _ => True))

theorem scr_join : (bigSep Finset.univ fun s : Fin 7 => sltA (F := F) c p s) ⊢ scr (F := F) c p :=
  (ownsSat_of_rects (c : Thread nD τ) (sM p) fullShare (slR p) (fun _ _ => rfl) (slR_disj p) (slR_cov p) fun _ _ => True).trans
    ((ownsSat_mono _ _ _ fun _ _ => trivial).trans (scr_eq c p).2)

/-! ## The result's buffer -/

/-- Part `p`'s columns of the result's buffer. -/
abbrev colM (p : Fin 3) : Memref sig .tc .vmem (TC p) .f32 := oM.slice (colR p) (fun _ => rfl)
abbrev colA : sProp 𝕄 :=
  ownsSat (Ix := Unit) (Name := ℕ) (U := UU) (Lvl := ℕ) (Val := Elt F) (c : Thread nD τ) (colM p) fullShare fun _ => True

theorem out_cut (Z : Vec F S1024x1024 .f32) :
    owns (Ix := Unit) (Name := ℕ) (U := UU) (Lvl := ℕ) (c : Thread nD τ) oM fullShare Z ⊢ bigSep Finset.univ fun p : Fin 3 => colA (F := F) c p :=
  (ownsSat_intro (c : Thread nD τ) oM fullShare (Φ := fun X => ∀ t : Fin 3, (fun (t : Fin 3) (_ : (colR t).shape.Idx → Elt F .f32) => True) t fun j => X ((colR t).emb j)) fun _ => trivial).trans
    (ownsSat_rects (c : Thread nD τ) oM fullShare colR (fun _ _ => rfl) colR_disj colR_cov fun _ _ => True)

theorem emb_bk (p : Fin 3) (b : Fin 8) (x : (T p).Idx) : (colR p).emb ((bkR p b).emb x) = (rB (p, b)).emb x := by
  funext a; refine Fin.ext ?_
  match a with
  | 0 => show 0 + 1 * (128 * b.val + 1 * (x 0).val) = 128 * b.val + 1 * (x 0).val; omega
  | 1 => show col0 p + 1 * (0 + 1 * (x 1).val) = col0 p + 1 * (x 1).val; omega

theorem view_bk (p : Fin 3) (b : Fin 8) : ((colM p).slice (bkR p b) (fun _ => rfl)).view.emb = (outB p b).view.emb :=
  Function.Embedding.ext fun x => congrArg (oM.view.emb) (emb_bk p b x)

/-- A block cut from its part is the block cut from the whole. -/
theorem owns_bk (b : Fin 8) (v : Vec F (T p) .f32) :
    owns (Ix := Unit) (Name := ℕ) (U := UU) (Lvl := ℕ) (c : Thread nD τ) ((colM p).slice (bkR p b) (fun _ => rfl)) fullShare v ⊢ blk c p b fullShare v := by
  have hs : ((colM p).slice (bkR p b) (fun _ => rfl)).view.set = (outB p b).view.set := by
    unfold View.set; rw [view_bk]
  unfold blk owns
  iintro ⟨%f, %hf, H⟩
  iexists f; isplitr
  · ipureintro
    rw [← hf]; funext x
    exact congrArg f (congrArg (oM.view.emb) (emb_bk p b x)).symm
  · rw [← hs]; iexact H

theorem own_cut : owns (Ix := Unit) (Name := ℕ) (U := UU) (Lvl := ℕ) (c : Thread nD τ) (colM p) fullShare (payDot p (X c) (wcol p (Y c)))
    ⊢ bigSep Finset.univ fun b : Fin 8 => blk c p b fullShare (A0 X Y p c b) :=
  (owns_rects (c : Thread nD τ) (colM p) fullShare (bkR p) (fun _ _ => rfl) (bkR_disj p) (bkR_cov p) _).trans
    (bigSep_mono fun b _ => owns_bk c p b _)

/-- The result: every block finished. -/
def RES : Vec F S1024x1024 .f32 := Rect.glue rB rB_cov fun t => FF X Y t.1 t.2

theorem out_join : (bigSep Finset.univ fun t : Fin 3 × Fin 8 => blk c t.1 t.2 fullShare (FF X Y t.1 t.2))
    ⊢ owns (Ix := Unit) (Name := ℕ) (U := UU) (Lvl := ℕ) (c : Thread nD τ) oM fullShare (RES X Y) := by
  have h (t : Fin 3 × Fin 8) : (fun j => RES X Y ((rB t).emb j)) = FF X Y t.1 t.2 :=
    funext fun y => Rect.glue_emb rB rB_cov rB_disj (fun t => FF X Y t.1 t.2) t y
  have h' := owns_of_rects (Ix := Unit) (Name := ℕ) (U := UU) (Lvl := ℕ) (c : Thread nD τ) oM fullShare rB (fun _ _ => rfl) rB_disj rB_cov (RES X Y)
  simp only [h] at h'
  exact h'

/-! ## By masks -/

/-- The blocks, by the bits in which they differ from the device's own. -/
def abE : Fin 8 ≃ Fin 8 where
  toFun m := ab p c m
  invFun b := ab p c 0 ^^^ b
  left_inv := by revert p c; decide +kernel
  right_inv := by revert p c; decide +kernel

theorem by_mask (Φ : Fin 8 → sProp 𝕄) : bigSep Finset.univ Φ = bigSep Finset.univ fun m => Φ (ab p c m) :=
  bigSep_univ_equiv (abE c p) Φ

theorem bigSep_8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_3 (Φ : Fin 3 → sProp 𝕄) : bigSep Finset.univ Φ = iprop(Φ 0 ∗ Φ 1 ∗ Φ 2) :=
  bigSep_univ_eq_bigSepL [0, 1, 2] (by decide) (by decide) Φ
theorem bigSep_14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- What a device starts part `p` from, its own product apart. -/
def start1 : sProp 𝕄 :=
  iprop((bigSep Finset.univ fun k : Fin 4 => sFree (F := F) c p k 0) ∗ (bigSep Finset.univ fun t : Fin 14 => tok (F := F) c p t)
    ∗ (bigSep Finset.univ fun t : Fin 14 => vPend (F := F) c p t)
    ∗ bigSep Finset.univ fun s : Fin 7 => sltA (F := F) (peer p (stg (s.castLE (by decide))) c) p s)

theorem EU_intro : iprop(start1 (F := F) c p ∗ bigSep Finset.univ fun b : Fin 8 => blk c p b fullShare (A0 X Y p c b)) ⊢ EU X Y c p := by
  unfold start1
  rw [by_mask c p, bigSep_4, bigSep_14, bigSep_14, bigSep_7, bigSep_8]
  unfold EU T0 T1 T2 T4 T3 T5 T6 T7 T8 T9 TV b0
  iintro ⟨⟨⟨Hf0, Hf1, Hf2, Hf3⟩, ⟨Ht0, Ht1, Ht2, Ht3, Ht4, Ht5, Ht6, Ht7, Ht8, Ht9, Ht10, Ht11, Ht12, Ht13⟩,
    ⟨Hv0, Hv1, Hv2, Hv3, Hv4, Hv5, Hv6, Hv7, Hv8, Hv9, Hv10, Hv11, Hv12, Hv13⟩, ⟨Hs0, Hs1, Hs2, Hs3, Hs4, Hs5, Hs6⟩⟩,
    ⟨Hb0, Hb1, Hb2, Hb3, Hb4, Hb5, Hb6, Hb7⟩⟩
  isplitl [Ht0 Hf0 Hb7 Hs0]
  · isplitl [Ht0]; · iexact Ht0
    isplitl [Hf0]; · iexact Hf0
    isplitl [Hb7]; · iexact Hb7
    iexact Hs0
  isplitl [Ht1 Hf1 Hb6 Hs1]
  · isplitl [Ht1]; · iexact Ht1
    isplitl [Hf1]; · iexact Hf1
    isplitl [Hb6]; · iexact Hb6
    iexact Hs1
  isplitl [Ht2 Hf2 Hb5 Hs2]
  · isplitl [Ht2]; · iexact Ht2
    isplitl [Hf2]; · iexact Hf2
    isplitl [Hb5]; · iexact Hb5
    iexact Hs2
  isplitl [Ht3 Hf3 Hb4 Hs3]
  · isplitl [Ht3]; · iexact Ht3
    isplitl [Hf3]; · iexact Hf3
    isplitl [Hb4]; · iexact Hb4
    iexact Hs3
  isplitl [Hv0]; · iexact Hv0
  isplitl [Hb3]; · iexact Hb3
  isplitl [Ht4]; · iexact Ht4
  isplitl [Hs4]; · iexact Hs4
  isplitl [Hv1]; · iexact Hv1
  isplitl [Hb2]; · iexact Hb2
  isplitl [Ht5]; · iexact Ht5
  isplitl [Hs5]; · iexact Hs5
  isplitl [Hv2]; · iexact Hv2
  isplitl [Hb1]; · iexact Hb1
  isplitl [Hv4]; · iexact Hv4
  isplitl [Ht6]; · iexact Ht6
  isplitl [Hs6]; · iexact Hs6
  isplitl [Hv3]; · iexact Hv3
  isplitl [Hb0]; · iexact Hb0
  isplitl [Hv5]; · iexact Hv5
  isplitl [Hv6]; · iexact Hv6
  isplitl [Ht7]; · iexact Ht7
  isplitl [Ht8]; · iexact Ht8
  isplitl [Ht10]; · iexact Ht10
  isplitl [Hv7]; · iexact Hv7
  isplitl [Ht9]; · iexact Ht9
  isplitl [Ht11]; · iexact Ht11
  isplitl [Hv8]; · iexact Hv8
  isplitl [Ht12]; · iexact Ht12
  isplitl [Hv9]; · iexact Hv9
  isplitl [Ht13]; · iexact Ht13
  isplitl [Hv10]; · iexact Hv10
  isplitl [Hv11]; · iexact Hv11
  isplitl [Hv12]; · iexact Hv12
  iexact Hv13

/-- What a device ends part `p` with: its cells past their last rounds, its receive buffer, every block
    finished. -/
def end1 : sProp 𝕄 :=
  iprop((bigSep Finset.univ fun k : Fin 4 => atPos ER (sC c p k) (nrd k) ∅ 0) ∗ (bigSep Finset.univ fun t : Fin 14 => vDone (F := F) c p t)
    ∗ scr (F := F) c p ∗ bigSep Finset.univ fun b : Fin 8 => blk c p b fullShare (FF X Y p b))

theorem EE_exit : EE X Y c p ⊢ end1 X Y c p := by
  unfold end1
  rw [by_mask c p, bigSep_4, bigSep_14, bigSep_8]
  unfold EE HV H9 H8 H7 H6 H5 H3 H4 H2 H1 H0 don bF sFree
  iintro ⟨⟨⟨Hf0, -⟩, ⟨Hf1, -⟩, ⟨Hf2, -⟩, ⟨Hf3, -⟩⟩, ⟨⟨Hv10, Hv11, Hv12, Hv13⟩, Hv9, Hv8, Hv7, ⟨Hv6, Hs6⟩, ⟨Hv5, Hs5⟩, ⟨Hv3, Hs3⟩, ⟨Hv4, Hs4⟩, ⟨Hv2, Hs2⟩, ⟨Hv1, Hs1⟩, ⟨Hv0, Hs0⟩⟩, HB⟩
  isplitl [Hf0 Hf1 Hf2 Hf3]
  · isplitl [Hf0]; · iexact Hf0
    isplitl [Hf1]; · iexact Hf1
    isplitl [Hf2]; · iexact Hf2
    iexact Hf3
  isplitl [Hv0 Hv1 Hv2 Hv3 Hv4 Hv5 Hv6 Hv7 Hv8 Hv9 Hv10 Hv11 Hv12 Hv13]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    isplitl [Hv11]; · iexact Hv11
    isplitl [Hv12]; · iexact Hv12
    iexact Hv13
  isplitl [Hs0 Hs1 Hs2 Hs3 Hs4 Hs5 Hs6]
  · iapply (scr_join (F := F) c p)
    rw [bigSep_7]
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  iexact HB

end Cut

end Cert.AllReduceProof

end
-- ==== Proof.AllReduce.Body.lean ====
/-
# The body

The signals and the barrier, which hand every device its partners' slots; the device's own product; then
the stages, each for the three parts in turn.
-/
module

public import proofs.«01_k».proof.Proof.AllReduce.Blocks

@[expose] public section

noncomputable section

namespace Cert.AllReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (X : Dev nD → Vec F S1024x128 .f32) (Y : Dev nD → Vec F S128x1024 .f32)
variable (K : Dev nD × CK → ℕ) (c : Dev nD)

/-! ## The slots, handed round -/

/-- The axis a slot is filled along. -/
abbrev axis (ps : Fin 3 × Fin 7) : Fin 3 := dims ps.1 (stg (ps.2.castLE (by decide)))

theorem by_axis (Φ : Fin 3 × Fin 7 → sProp 𝕄) : bigSep Finset.univ Φ = bigSep Finset.univ fun d => bigSep (slotsOf d) Φ := by
  have h : Finset.univ.image axis = Finset.univ := by decide
  have := bigSep_fiberwise (Finset.univ : Finset (Fin 3 × Fin 7)) axis Φ
  rw [h] at this
  exact this

theorem slots_out : (bigSep Finset.univ fun p => scr (F := F) c p) ⊢ bigSep Finset.univ fun d => payB (F := F) (partner d c) d := by
  refine (bigSep_mono fun p _ => scr_cut (F := F) c p).trans ?_
  rw [← bigSep_univ_prod (fun ps : Fin 3 × Fin 7 => sltA (F := F) c ps.1 ps.2), by_axis]
  exact bigSep_mono fun d _ => by unfold payB; rw [partner_partner]; exact Entails.refl _

theorem slots_in : (bigSep Finset.univ fun d => payB (F := F) c d)
    ⊢ bigSep Finset.univ fun p : Fin 3 => bigSep Finset.univ fun s : Fin 7 => sltA (F := F) (peer p (stg (s.castLE (by decide))) c) p s := by
  rw [← bigSep_univ_prod (fun ps : Fin 3 × Fin 7 => sltA (F := F) (peer ps.1 (stg (ps.2.castLE (by decide))) c) ps.1 ps.2), by_axis]
  refine bigSep_mono fun d _ => ?_
  unfold payB
  refine bigSep_mono fun ps hps => ?_
  have h : dims ps.1 (stg (ps.2.castLE (by decide))) = d := (Finset.mem_filter.mp hps).2
  unfold peer
  rw [h]
  exact Entails.refl _

variable (Q : PUnit.{1} → sProp (MT nD τ sig Unit (Elt F) ℕ UU ℕ)) (k : PG F)

/-! ## The signals and the barrier -/

/-- A signal to the partner along axis `d` hands it the slots it is to fill. -/
theorem wp_sig (d : Fin 3) {n : Dev nD} (hn : n = partner d c) (O₁ O₂ : CellTallies nD τ sig Unit)
    (hO : O₁ = O₂ + tallyAt (bC (partner d c)) () 1) (W : Waits sig Unit) (k : PUnit → PG F) :
    iprop(ctx X Y K ∗ dutyTok ER (bC (partner d c)) 0 d ∗ payB (F := F) (partner d c) d ∗ owes (c : Thread nD τ) O₁ W)
      ⊢ iprop((owes (c : Thread nD τ) O₂ W -∗ WP c (k ⟨⟩) Q) -∗ WP c (.op (.semSignal (n, .tc) bar 1) k) Q) := by
  subst hn
  iintro ⟨#HC, Ht, Hp, HO⟩ Hk
  iapply (Rounds.wp_signal 𝒱₀ ER (Rd X Y) (c : Thread nD τ) none (dst := (partner d c : Thread nD τ)) (κ := K (partner d c, none)) (r := 0)
      (d := d) (by rw [duties_b]; exact Finset.mem_univ _) (amount_b X Y (partner d c) 0 d) () O₂ hO (W := W)) $$ [Ht Hp HO]
  · isplitr; · iapply (inv_at X Y K (partner d c, none)); iexact HC
    isplitl [HO]; · iexact HO
    isplitl [Ht]; · iexact Ht
    isplitl [Hp]; · rw [payload_b]; iexact Hp
    iapply (reached_at X Y K (partner d c, none)); iexact HC
  iexact Hk

theorem sig_spec (W : Waits sig Unit) :
    iprop(ctx X Y K ∗ (bigSep Finset.univ fun d => dutyTok ER (bC (partner d c)) 0 d) ∗ (bigSep Finset.univ fun p => scr (F := F) c p)
        ∗ owes (c : Thread nD τ) (O₀ c) W)
      ⊢ iprop((owes (c : Thread nD τ) (O₃ c) W -∗ WP c k Q) -∗ WP c (sigI c k) Q) := by
  unfold sigI
  rw [bigSep_3]
  iintro ⟨#HC, ⟨Ht0, Ht1, Ht2⟩, Hs, HO⟩ Hk
  ihave Hp := (slots_out (F := F) c) $$ Hs
  ihave Hp := (Entails.of_eq (bigSep_3 _)) $$ Hp
  icases Hp with ⟨Hp0, Hp1, Hp2⟩
  iapply (wp_sig X Y K c Q 0 (dev1_eq c) (O₀ c) (O₁ c) rfl W _) $$ [Ht0 Hp0 HO]
  · isplitr; · iexact HC
    isplitl [Ht0]; · iexact Ht0
    isplitl [Hp0] <;> iassumption
  iintro HO
  iapply (wp_sig X Y K c Q 1 (dev2_eq c) (O₁ c) (O₂ c) rfl W _) $$ [Ht1 Hp1 HO]
  · isplitr; · iexact HC
    isplitl [Ht1]; · iexact Ht1
    isplitl [Hp1] <;> iassumption
  iintro HO
  iapply (wp_sig X Y K c Q 2 (dev3_eq c) (O₂ c) (O₃ c) rfl W _) $$ [Ht2 Hp2 HO]
  · isplitr; · iexact HC
    isplitl [Ht2]; · iexact Ht2
    isplitl [Hp2] <;> iassumption
  iintro HO
  iapply Hk; iexact HO

/-- The barrier hands the device its partners' slots. -/
theorem bar_spec :
    iprop(ctx X Y K ∗ atPos ER (bC c) 0 ∅ 0 ∗ cred (tallyAt (bC c) () 3) ∗ ow (F := F) c order)
      ⊢ iprop(((atPos ER (bC c) 1 ∅ 0
          ∗ (bigSep Finset.univ fun p : Fin 3 => bigSep Finset.univ fun s : Fin 7 => sltA (F := F) (peer p (stg (s.castLE (by decide))) c) p s)
          ∗ ow c order) -∗ WP c k Q) -∗ WP c (barI k) Q) := by
  unfold ow barI
  iintro ⟨#HC, Hat, Hc, ⟨%W, HO⟩⟩ Hk
  iapply (Rounds.wp_wait_rest_token 𝒱₀ ER (Rd X Y) (c : Thread nD τ) none (κ := K (c, none))
      (wpE_semWait_eq 𝒱₀ (c : Thread nD τ) none Set.univ) (Set.mem_univ _) () (O := owedL c order) (W := W) (R := 0) (m := 0) (T := ∅)
      (by rw [expect_b])) $$ [Hc HO Hat]
  · isplitr; · iapply (inv_at X Y K (c, none)); iexact HC
    isplitl [Hc]; · iexact Hc
    isplitl [HO]; · iexact HO
    isplitr; · iapply (mayWait c (.reg bar) order (by rw [dec_b]; decide)); iapply (lev_at X Y K); iexact HC
    iexact Hat
  iintro ⟨HO, Hat, -, Hpay⟩
  ihave Hp := ((Entails.of_eq (rest_b X Y c)).trans (slots_in (F := F) c)) $$ Hpay
  iapply Hk
  isplitl [Hat]; · iexact Hat
  isplitl [Hp]; · iexact Hp
  iexists _; iexact HO

/-! ## The device's own product -/

/-- A factor, read in full. -/
abbrev xO : sProp 𝕄 := owns (Ix := Unit) (Name := ℕ) (U := UU) (Lvl := ℕ) (c : Thread nD τ) xM fullShare (X c)
abbrev wO : sProp 𝕄 := owns (Ix := Unit) (Name := ℕ) (U := UU) (Lvl := ℕ) (c : Thread nD τ) wM fullShare (Y c)

theorem dot_spec (p : Fin 3) :
    iprop(xO X c ∗ wO Y c ∗ colA (F := F) c p)
      ⊢ iprop(((xO X c ∗ wO Y c ∗ bigSep Finset.univ fun b : Fin 8 => blk c p b fullShare (A0 X Y p c b)) -∗ WP c k Q) -∗ WP c (dotI p k) Q) := by
  refine .trans ?_ (wand_mono_left (wand_mono_left (sep_mono_right (sep_mono_right (own_cut X Y c p)))))
  unfold dotI xO wO colA owns ownsSat
  iintro ⟨⟨%fx, %hx, Hx⟩, ⟨%fw, %hw, Hw⟩, ⟨%fo, -, Ho⟩⟩ Hk
  iapply (wp_load_rect 𝒱₀ (c : Thread nD τ) none Set.univ (m := xM) (r := Rect.unit (s := S1024x128) ![0, 0] S1024x128.size xOff_inb)
    (S := xM.view.set) (View.set_slice_subset _ _)) $$ Hx; iintro Hx
  iapply (wp_load_rect 𝒱₀ (c : Thread nD τ) none Set.univ (m := wM) (r := Rect.unit (s := S128x1024) ![0, col0 p] (T p).size (wOff_inb p))
    (S := wM.view.set) (View.set_slice_subset _ _)) $$ Hw; iintro Hw
  iapply (wp_load_rect 𝒱₀ (c : Thread nD τ) none Set.univ (m := oM) (r := colR p) (S := (oM.access (colR p)).set) subset_rfl) $$ Ho; iintro Ho
  iapply (wp_store 𝒱₀ (c : Thread nD τ) none Set.univ (m := oM) (r := colR p) (Mk := Finset.univ) (S := (oM.access (colR p)).set) subset_rfl) $$ Ho; iintro Ho
  iapply Hk
  isplitl [Hx]
  · iexists fx; isplitr
    · ipureintro; exact hx
    · iexact Hx
  isplitl [Hw]
  · iexists fw; isplitr
    · ipureintro; exact hw
    · iexact Hw
  iexists _; isplitr
  rotate_left
  · iexact Ho
  ipureintro
  refine (View.read_write_univ fo _).trans ?_
  have ex : (xM.access (Rect.unit (s := S1024x128) ![0, 0] S1024x128.size xOff_inb)).read (Elt F) fx = X c := by
    rw [← hx]; exact Memref.readAt_unit_zero (Elt F) cc0_stg0_0 (funext fun a => by fin_cases a <;> rfl) _ fx
  have ew : (wM.access (Rect.unit (s := S128x1024) ![0, col0 p] (T p).size (wOff_inb p))).read (Elt F) fw = wcol p (Y c) := by
    rw [← hw]; rfl
  rw [ex, ew]

/-! ## The stages, each for the three parts -/

/-- A stage that takes each part from `A` to `B`, issuing the transfers `ts` of it, takes the three parts so. -/
theorem each_spec (st : Fin 3 → Dev nD → PG F → PG F) (A B : Fin 3 → sProp (MT nD τ sig Unit (Elt F) ℕ UU ℕ)) (ts : List (Fin 14)) (n : ℕ)
    (h : ∀ (p : Fin 3) (l : List (Fin 3 × Fin 14)) (k : PG F), (∀ x ∈ (ts.map fun t => (p, t)) ++ l, n < lvl x.2) →
      iprop(ctx X Y K ∗ A p ∗ ow c ((ts.map fun t => (p, t)) ++ l)) ⊢ iprop(((B p ∗ ow c l) -∗ WP c k Q) -∗ WP c (st p c k) Q))
    (l : List (Fin 3 × Fin 14))
    (hl : ∀ x ∈ (ts.map fun t => ((0 : Fin 3), t)) ++ ((ts.map fun t => ((1 : Fin 3), t)) ++ ((ts.map fun t => ((2 : Fin 3), t)) ++ l)), n < lvl x.2) :
    iprop(ctx X Y K ∗ (A 0 ∗ A 1 ∗ A 2)
        ∗ ow c ((ts.map fun t => ((0 : Fin 3), t)) ++ ((ts.map fun t => ((1 : Fin 3), t)) ++ ((ts.map fun t => ((2 : Fin 3), t)) ++ l))))
      ⊢ iprop((((B 0 ∗ B 1 ∗ B 2) ∗ ow c l) -∗ WP c k Q) -∗ WP c (each st c k) Q) := by
  have hl1 := fun x hx => hl x (List.mem_append_right _ hx)
  have hl2 := fun x hx => hl1 x (List.mem_append_right _ hx)
  unfold each
  iintro ⟨#HC, ⟨H0, H1, H2⟩, HO⟩ Hk
  iapply (h 0 _ _ hl) $$ [H0 HO]
  · isplitr; · iexact HC
    isplitl [H0] <;> iassumption
  iintro ⟨H0, HO⟩
  iapply (h 1 _ _ hl1) $$ [H1 HO]
  · isplitr; · iexact HC
    isplitl [H1] <;> iassumption
  iintro ⟨H1, HO⟩
  iapply (h 2 _ _ hl2) $$ [H2 HO]
  · isplitr; · iexact HC
    isplitl [H2] <;> iassumption
  iintro ⟨H2, HO⟩
  iapply Hk
  isplitr [HO]
  · isplitl [H0]; · iexact H0
    isplitl [H1] <;> iassumption
  iexact HO

/-- The stages after the first sends. -/
def later (d : Dev nD) (k : PG F) : PG F :=
  each st0 d <| each st1 d <| each st2 d <| each st4 d <| each st3 d <| each st5 d <| each st6 d <|
  each st7 d <| each st8 d <| each st9 d <| each stV d <| each stS d k

set_option maxRecDepth 4000 in
theorem later_spec :
    iprop(ctx X Y K ∗ (E0 X Y c 0 ∗ E0 X Y c 1 ∗ E0 X Y c 2) ∗ ow c (order.drop 12))
      ⊢ iprop((((EE X Y c 0 ∗ EE X Y c 1 ∗ EE X Y c 2) ∗ ow c []) -∗ WP c k Q) -∗ WP c (later c k) Q) := by
  unfold later
  iintro ⟨#HC, HE, HO⟩ Hk
  iapply (each_spec X Y K c Q _ st0 (E0 X Y c) (E1 X Y c) [4] 2 (fun p l k hl => st0_spec X Y K c p Q l k hl) (order.drop 15) (by decide)) $$ [HE HO]
  · isplitr; · iexact HC
    isplitl [HE]; · iexact HE
    iexact HO
  iintro ⟨HE, HO⟩
  iapply (each_spec X Y K c Q _ st1 (E1 X Y c) (E2 X Y c) [5] 2 (fun p l k hl => st1_spec X Y K c p Q l k hl) (order.drop 18) (by decide)) $$ [HE HO]
  · isplitr; · iexact HC
    isplitl [HE]; · iexact HE
    iexact HO
  iintro ⟨HE, HO⟩
  iapply (each_spec X Y K c Q _ st2 (E2 X Y c) (E4 X Y c) [] 2 (fun p l k hl => st2_spec X Y K c p Q l k hl) (order.drop 18) (by decide)) $$ [HE HO]
  · isplitr; · iexact HC
    isplitl [HE]; · iexact HE
    iexact HO
  iintro ⟨HE, HO⟩
  iapply (each_spec X Y K c Q _ st4 (E4 X Y c) (E3 X Y c) [6] 3 (fun p l k hl => st4_spec X Y K c p Q l k hl) (order.drop 21) (by decide)) $$ [HE HO]
  · isplitr; · iexact HC
    isplitl [HE]; · iexact HE
    iexact HO
  iintro ⟨HE, HO⟩
  iapply (each_spec X Y K c Q _ st3 (E3 X Y c) (E5 X Y c) [] 2 (fun p l k hl => st3_spec X Y K c p Q l k hl) (order.drop 21) (by decide)) $$ [HE HO]
  · isplitr; · iexact HC
    isplitl [HE]; · iexact HE
    iexact HO
  iintro ⟨HE, HO⟩
  iapply (each_spec X Y K c Q _ st5 (E5 X Y c) (E6 X Y c) [] 3 (fun p l k hl => st5_spec X Y K c p Q l k hl) (order.drop 21) (by decide)) $$ [HE HO]
  · isplitr; · iexact HC
    isplitl [HE]; · iexact HE
    iexact HO
  iintro ⟨HE, HO⟩
  iapply (each_spec X Y K c Q _ st6 (E6 X Y c) (E7 (F := F) c) [7, 8, 10] 4 (fun p l k hl => st6_spec X Y K c p Q l k hl) (order.drop 30) (by decide)) $$ [HE HO]
  · isplitr; · iexact HC
    isplitl [HE]; · iexact HE
    iexact HO
  iintro ⟨HE, HO⟩
  iapply (each_spec X Y K c Q _ st7 (E7 (F := F) c) (E8 X Y c) [9, 11] 5 (fun p l k hl => st7_spec X Y K c p Q l k hl) (order.drop 36) (by decide)) $$ [HE HO]
  · isplitr; · iexact HC
    isplitl [HE]; · iexact HE
    iexact HO
  iintro ⟨HE, HO⟩
  iapply (each_spec X Y K c Q _ st8 (E8 X Y c) (E9 X Y c) [12] 5 (fun p l k hl => st8_spec X Y K c p Q l k hl) (order.drop 39) (by decide)) $$ [HE HO]
  · isplitr; · iexact HC
    isplitl [HE]; · iexact HE
    iexact HO
  iintro ⟨HE, HO⟩
  iapply (each_spec X Y K c Q _ st9 (E9 X Y c) (EV X Y c) [13] 6 (fun p l k hl => st9_spec X Y K c p Q l k hl) [] (by decide)) $$ [HE HO]
  · isplitr; · iexact HC
    isplitl [HE]; · iexact HE
    iexact HO
  iintro ⟨HE, HO⟩
  iapply (each_spec X Y K c Q _ stV (EV X Y c) (ES X Y c) [] 7 (fun p l k hl => stV_spec X Y K c p Q l k hl) [] (by decide)) $$ [HE HO]
  · isplitr; · iexact HC
    isplitl [HE]; · iexact HE
    iexact HO
  iintro ⟨HE, HO⟩
  iapply (each_spec X Y K c Q _ stS (ES X Y c) (EE X Y c) [] 0 (fun p l k hl => stS_spec X Y K c p Q l k hl) [] (by decide)) $$ [HE HO]
  · isplitr; · iexact HC
    isplitl [HE]; · iexact HE
    iexact HO
  iexact Hk

/-- A part's product and its first sends. -/
theorem first_spec (p : Fin 3) (l : List (Fin 3 × Fin 14)) :
    iprop(ctx X Y K ∗ start1 (F := F) c p ∗ (bigSep Finset.univ fun b : Fin 8 => blk c p b fullShare (A0 X Y p c b)) ∗ ow c ((p, 0) :: (p, 1) :: (p, 2) :: (p, 3) :: l))
      ⊢ iprop(((E0 X Y c p ∗ ow c l) -∗ WP c k Q) -∗ WP c (stU p c k) Q) := by
  iintro ⟨#HC, Hs, Hb, HO⟩
  iapply (stU_spec X Y K c p Q l k)
  isplitr; · iexact HC
  isplitr [HO]
  · iapply (EU_intro X Y c p)
    isplitl [Hs] <;> iassumption
  iexact HO

/-- What a device brings for part `p`: its positions, the transfers it may issue, and what it is owed. -/
def gh1 (p : Fin 3) : sProp 𝕄 :=
  iprop((bigSep Finset.univ fun k : Fin 4 => sFree (F := F) c p k 0) ∗ (bigSep Finset.univ fun t : Fin 14 => tok (F := F) c p t)
    ∗ bigSep Finset.univ fun t : Fin 14 => vPend (F := F) c p t)

theorem start1_intro (p : Fin 3) :
    iprop(gh1 (F := F) c p ∗ bigSep Finset.univ fun s : Fin 7 => sltA (F := F) (peer p (stg (s.castLE (by decide))) c) p s) ⊢ start1 (F := F) c p := by
  unfold gh1 start1
  iintro ⟨⟨H1, H2, H3⟩, H4⟩
  isplitl [H1]; · iexact H1
  isplitl [H2]; · iexact H2
  isplitl [H3] <;> iassumption

/-- The whole body: the result's buffer ends at the finished blocks, on every device. -/
theorem flat_spec (W : Waits sig Unit) (Z : Vec F S1024x1024 .f32) :
    iprop(ctx X Y K ∗ (atPos ER (bC c) 0 ∅ 0 ∗ cred (tallyAt (bC c) () 3) ∗ (bigSep Finset.univ fun d => dutyTok ER (bC (partner d c)) 0 d)
          ∗ bigSep Finset.univ fun p => gh1 (F := F) c p)
        ∗ (bigSep Finset.univ fun p => scr (F := F) c p) ∗ owes (c : Thread nD τ) (O₀ c) W
        ∗ xO X c ∗ wO Y c ∗ owns (Ix := Unit) (Name := ℕ) (U := UU) (Lvl := ℕ) (c : Thread nD τ) oM fullShare Z)
      ⊢ iprop(((atPos ER (bC c) 1 ∅ 0 ∗ (bigSep Finset.univ fun p => end1 X Y c p) ∗ xO X c ∗ wO Y c ∗ ow c [])
          -∗ |={Set.univ}=> Q ⟨⟩) -∗ WP c (flat c) Q) := by
  unfold flat
  iintro ⟨#HC, ⟨Hat, Hcr, Htk, Hgh⟩, Hscr, HO, Hx, Hw, Ho⟩ Hk
  iapply (sig_spec X Y K c Q _ W) $$ [Htk Hscr HO]
  · isplitr; · iexact HC
    isplitl [Htk]; · iexact Htk
    isplitl [Hscr] <;> iassumption
  iintro HO
  ihave Ho := ((out_cut c Z).trans (Entails.of_eq (bigSep_3 _))) $$ Ho
  icases Ho with ⟨Ho0, Ho1, Ho2⟩
  iapply (dot_spec X Y c Q _ 0) $$ [Hx Hw Ho0]
  · isplitl [Hx]; · iexact Hx
    isplitl [Hw] <;> iassumption
  iintro ⟨Hx, Hw, Hb0⟩
  iapply (bar_spec X Y K c Q _) $$ [Hat Hcr HO]
  · isplitr; · iexact HC
    isplitl [Hat]; · iexact Hat
    isplitl [Hcr]; · iexact Hcr
    unfold ow; iexists W; iexact HO
  iintro ⟨Hat, Hsl, HO⟩
  ihave Hst := (show iprop((bigSep Finset.univ fun p => gh1 (F := F) c p)
      ∗ bigSep Finset.univ fun p : Fin 3 => bigSep Finset.univ fun s : Fin 7 => sltA (F := F) (peer p (stg (s.castLE (by decide))) c) p s)
      ⊢ iprop(start1 (F := F) c 0 ∗ start1 (F := F) c 1 ∗ start1 (F := F) c 2) from by
        rw [← bigSep_sep']
        exact (bigSep_mono fun p _ => start1_intro (F := F) c p).trans (Entails.of_eq (bigSep_3 _))) $$ [Hgh Hsl]
  · isplitl [Hgh] <;> iassumption
  icases Hst with ⟨Hs0, Hs1, Hs2⟩
  iapply (first_spec X Y K c Q _ 0 (order.drop 4)) $$ [Hs0 Hb0 HO]
  · isplitr; · iexact HC
    isplitl [Hs0]; · iexact Hs0
    isplitl [Hb0]; · iexact Hb0
    iexact HO
  iintro ⟨HE0, HO⟩
  iapply (dot_spec X Y c Q _ 1) $$ [Hx Hw Ho1]
  · isplitl [Hx]; · iexact Hx
    isplitl [Hw] <;> iassumption
  iintro ⟨Hx, Hw, Hb1⟩
  iapply (first_spec X Y K c Q _ 1 (order.drop 8)) $$ [Hs1 Hb1 HO]
  · isplitr; · iexact HC
    isplitl [Hs1]; · iexact Hs1
    isplitl [Hb1]; · iexact Hb1
    iexact HO
  iintro ⟨HE1, HO⟩
  iapply (dot_spec X Y c Q _ 2) $$ [Hx Hw Ho2]
  · isplitl [Hx]; · iexact Hx
    isplitl [Hw] <;> iassumption
  iintro ⟨Hx, Hw, Hb2⟩
  iapply (first_spec X Y K c Q _ 2 (order.drop 12)) $$ [Hs2 Hb2 HO]
  · isplitr; · iexact HC
    isplitl [Hs2]; · iexact Hs2
    isplitl [Hb2]; · iexact Hb2
    iexact HO
  iintro ⟨HE2, HO⟩
  iapply (later_spec X Y K c Q (Prog.ret ⟨⟩)) $$ [HE0 HE1 HE2 HO]
  · isplitr; · iexact HC
    isplitr [HO]
    · isplitl [HE0]; · iexact HE0
      isplitl [HE1] <;> iassumption
    iexact HO
  iintro ⟨⟨HE0, HE1, HE2⟩, HO⟩
  unfold WP
  rw [wp_ret]
  iapply Hk
  isplitl [Hat]; · iexact Hat
  isplitl [HE0 HE1 HE2]
  · rw [bigSep_3]
    isplitl [HE0]; · iapply (EE_exit X Y c 0); iexact HE0
    isplitl [HE1]; · iapply (EE_exit X Y c 1); iexact HE1
    iapply (EE_exit X Y c 2); iexact HE2
  isplitl [Hx]; · iexact Hx
  isplitl [Hw]; · iexact Hw
  iexact HO

end Body

end Cert.AllReduceProof

end
-- ==== Proof.AllReduce.Launch.lean ====
/-
# The launch

What a device starts from and ends with; the tokens and the credit the launch deals; the run of the
whole program on the eight devices, over any float values.
-/
module

public import proofs.«01_k».proof.Proof.AllReduce.Body

@[expose] public section

noncomputable section

namespace Cert.AllReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells of a device, by kind -/

/-- Over all the cells of a device: its barrier, its send semaphores, its receive semaphores. -/
theorem by_kind (Φ : CK → sProp 𝕄) : bigSep Finset.univ Φ
    = iprop(Φ none ∗ (bigSep Finset.univ fun x : Fin 3 × Fin 4 => Φ (some (.inl x))) ∗ bigSep Finset.univ fun x : Fin 3 × Fin 14 => Φ (some (.inr x))) := by
  rw [bigSep_univ_equiv (Equiv.optionEquivSumPUnit.{0, 0} DK).symm Φ, bigSep_univ_sum, bigSep_univ_sum]
  have h : (bigSep Finset.univ fun b : PUnit.{1} => Φ ((Equiv.optionEquivSumPUnit.{0, 0} DK).symm (.inr b))) = Φ none :=
    (bigSep_univ_eq_bigSepL [PUnit.unit] (by decide) (by decide) _).trans rfl
  rw [h]
  exact sep_comm.antisymm sep_comm

/-- Over a device's own semaphores, likewise. -/
theorem by_own (Φ : DK → sProp 𝕄) : bigSep Finset.univ Φ
    = iprop((bigSep Finset.univ fun x : Fin 3 × Fin 4 => Φ (.inl x)) ∗ bigSep Finset.univ fun x : Fin 3 × Fin 14 => Φ (.inr x)) := bigSep_univ_sum Φ

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  have h3 : k = k' := Option.some.inj (by rw [← dec_csem k, h2, dec_csem k'])
  rw [h1, h3]

/-- The semaphores the kernel brings itself. -/
abbrev osem : DK → SemLoc sig := fun k => csem (some k)

theorem ownSemFacts : Pipeline.OwnSemFacts cfg0.spec osem where
  isScoped := by decide +kernel
  inj := fun k k' h => Option.some.inj (Option.some.inj (by rw [← dec_csem (some k), ← dec_csem (some k')]; exact congrArg dec h))
  disj := by decide +kernel

theorem unscopedSems0_eq (c : Dev nD) : (unscopedSems0 c : sProp 𝕄) = semVal (bC c) 0 := by
  unfold unscopedSems0; rw [bigSep_eq_bigSepL_of_eq [SemLoc.reg bar] (by decide +kernel) (by decide)]; rfl

theorem sems0_eq (c : Dev nD) :
    (bigSep Finset.univ fun k : CK => (semVal (kcell (c, k)) 0 : sProp 𝕄))
      = iprop(unscopedSems0 c ∗ Pipeline.ownSems0 (Ix := Unit) (Name := ℕ) (U := UU) (Lvl := ℕ) (Val := Elt F) (τ := τ) osem c) := by
  unfold Pipeline.ownSems0
  rw [unscopedSems0_eq, by_kind, by_own]
  rfl

/-! ## The cells close -/

/-- The last round of a cell. -/
def lastR : CK → ℕ
  | some (.inl (_, k)) => nrd k
  | _ => 1

section Cells

variable (X : Dev nD → Vec F S1024x128 .f32) (Y : Dev nD → Vec F S128x1024 .f32) (K : Dev nD × CK → ℕ)

theorem later_k (c : Dev nD) : ∀ (k : CK) (r : ℕ), lastR k ≤ r → (Rd X Y).duties (kcell (c, k)) r = ∅
  | none => later_b X Y c
  | some (.inl (p, k)) => later_s X Y c p k
  | some (.inr (p, t)) => later_v X Y c p t

/-- A device's cells, all at their last round, close: their counters are zero. -/
theorem close_all (c : Dev nD) :
    iprop(ctx X Y K ∗ bigSep Finset.univ fun k : CK => atPos ER (kcell (c, k)) (lastR k) ∅ 0)
      ⊢ |={Set.univ}=> (bigSep Finset.univ fun k : CK => (semVal (kcell (c, k)) 0 : sProp 𝕄)) := by
  refine (bigSep_with_persistent (R := ctx X Y K) (S := Finset.univ) (Ψ := fun k : CK => iprop(|={Set.univ}=> semVal (kcell (c, k)) 0)) fun k _ => ?_).trans (bigSep_fupd _ _)
  iintro ⟨#HC, Hat⟩
  iapply (Rounds.cell_close ER (Rd X Y) (Set.mem_univ (K (c, k))) (fun h => h) (R := lastR k) (later_k X Y c k))
  isplitr; · iapply (inv_at X Y K (c, k)); iexact HC
  iexact Hat

theorem ends_close (c : Dev nD) :
    iprop(ctx X Y K ∗ atPos ER (bC c) 1 ∅ 0 ∗ bigSep Finset.univ fun p => end1 X Y c p)
      ⊢ |={Set.univ}=> iprop((bigSep Finset.univ fun k : CK => (semVal (kcell (c, k)) 0 : sProp 𝕄))
          ∗ (bigSep Finset.univ fun p => scr (F := F) c p) ∗ bigSep Finset.univ fun p : Fin 3 => bigSep Finset.univ fun b : Fin 8 => blk c p b fullShare (FF X Y p b)) := by
  unfold end1 vDone
  rw [bigSep_sep', bigSep_sep', bigSep_sep']
  iintro ⟨#HC, Hb, Hs, Hv, Hscr, Hblk⟩
  imod (close_all X Y K c) $$ [Hb Hs Hv] with Hz
  · isplitr; · iexact HC
    rw [by_kind, bigSep_univ_prod, bigSep_univ_prod]
    isplitl [Hb]; · iexact Hb
    isplitl [Hs]; · iexact Hs
    iexact Hv
  imodintro
  isplitl [Hz]; · iexact Hz
  isplitl [Hscr] <;> iassumption

/-! ## What a device starts from -/

/-- The duties a device pays: a partner's barrier along each axis; each transfer's departure, and its arrival at the partner. -/
def payToks (c : Dev nD) : sProp 𝕄 :=
  iprop((bigSep Finset.univ fun d : Fin 3 => dutyTok ER (bC (partner d c)) 0 d)
    ∗ (bigSep Finset.univ fun x : Fin 3 × Fin 14 => dutyTok ER (sC c x.1 (sk x.2)) (rd x.2) 0)
    ∗ bigSep Finset.univ fun x : Fin 3 × Fin 14 => dutyTok ER (vC (oth x.1 x.2 c) x.1 x.2) 0 0)

/-- With its positions, at the first round of each of its cells. -/
def linear (c : Dev nD) : sProp 𝕄 :=
  iprop((bigSep Finset.univ fun k : CK => atPos ER (kcell (c, k)) 0 ∅ 0) ∗ payToks (F := F) c)

/-- What it is owed: a unit of each partner, and every arrival. -/
def owing1 (c : Dev nD) : sProp 𝕄 :=
  iprop(cred (tallyAt (bC c) () 3) ∗ bigSep Finset.univ fun x : Fin 3 × Fin 14 => cred (tallyAt (vC c x.1 x.2) () (N x.1)))

def start (c : Dev nD) : sProp 𝕄 := iprop((∃ K, ctx X Y K ∗ linear (F := F) c) ∗ owing1 (F := F) c)

theorem gh_intro (c : Dev nD) :
    iprop(ctx X Y K ∗ linear (F := F) c ∗ owing1 (F := F) c)
      ⊢ iprop(atPos ER (bC c) 0 ∅ 0 ∗ cred (tallyAt (bC c) () 3) ∗ (bigSep Finset.univ fun d => dutyTok ER (bC (partner d c)) 0 d)
          ∗ bigSep Finset.univ fun p => gh1 (F := F) c p) := by
  unfold linear owing1 payToks gh1 tok vPend
  rw [by_kind, bigSep_sep', bigSep_sep']
  simp only [bigSep_sep', bigSep_univ_prod]
  iintro ⟨#HC, ⟨⟨Hb, Hs, Hv⟩, Htb, Hts, Htv⟩, Hcb, Hcv⟩
  isplitl [Hb]; · iexact Hb
  isplitl [Hcb]; · iexact Hcb
  isplitl [Htb]; · iexact Htb
  isplitl [Hs]
  · iapply (bigSep_with_persistent (R := ctx X Y K) (S := Finset.univ) (Φ := fun p : Fin 3 => bigSep Finset.univ fun k : Fin 4 => atPos ER (sC c p k) 0 ∅ 0) fun p _ =>
      bigSep_with_persistent (R := ctx X Y K) (S := Finset.univ) (Φ := fun k : Fin 4 => atPos ER (sC c p k) 0 ∅ 0) fun k _ => by
        unfold sFree
        iintro ⟨#HC, H⟩
        isplitl [H]; · iexact H
        iapply (reached_at X Y K (c, some (.inl (p, k)))); iexact HC)
    isplitr; · iexact HC
    iexact Hs
  isplitl [Hts Htv]
  · isplitl [Hts]; · iexact Hts
    iexact Htv
  isplitl [Hv]; · iexact Hv
  iexact Hcv

/-! ## The launch's element -/

/-- The duties of a device's own cells, each by its cell, its round and its number. -/
abbrev TI : Type := Fin 3 ⊕ ((Fin 3 × Fin 14) ⊕ (Fin 3 × Fin 14))
def tokK : TI → CK × ℕ × Fin 3
  | .inl d => (none, 0, d)
  | .inr (.inl (p, t)) => (some (.inl (p, sk t)), rd t, 0)
  | .inr (.inr (p, t)) => (some (.inr (p, t)), 0, 0)

theorem tokK_injective : Function.Injective tokK := by
  have h : ∀ t t' : Fin 14, sk t = sk t' → rd t = rd t' → t = t' := by decide
  rintro (d | ⟨p, t⟩ | ⟨p, t⟩) (d' | ⟨p', t'⟩ | ⟨p', t'⟩) e <;> simp only [tokK, Prod.mk.injEq, Option.some.injEq, Sum.inl.injEq, Sum.inr.injEq, reduceCtorEq, false_and] at e
  · rw [e.2.2]
  · rw [e.1.1, h t t' e.1.2 e.2.1]
  · rw [e.1.1, e.1.2]

def tokOf (x : Dev nD × TI) : GSem nD τ sig × ℕ × Fin 3 := (kcell (x.1, (tokK x.2).1), (tokK x.2).2)
theorem tokOf_injective : Function.Injective tokOf := by
  rintro ⟨c, i⟩ ⟨c', i'⟩ e
  have h1 : (c, (tokK i).1) = (c', (tokK i').1) := kcell_injective (congrArg Prod.fst e)
  have h0 : (tokK i).2 = (tokK i').2 := congrArg (fun y : GSem nD τ sig × ℕ × Fin 3 => y.2) e
  have h2 : i = i' := tokK_injective (Prod.ext (congrArg Prod.snd h1) h0)
  have h3 : c = c' := congrArg Prod.fst h1
  rw [h3, h2]

def ringCells : Finset (GSem nD τ sig) := Finset.univ.map ⟨kcell, kcell_injective⟩
def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

/-- The duties of a device's own cells. -/
def toks (c : Dev nD) : sProp 𝕄 :=
  iprop((bigSep Finset.univ fun d : Fin 3 => dutyTok ER (bC c) 0 d)
    ∗ (bigSep Finset.univ fun x : Fin 3 × Fin 14 => dutyTok ER (sC c x.1 (sk x.2)) (rd x.2) 0)
    ∗ bigSep Finset.univ fun x : Fin 3 × Fin 14 => dutyTok ER (vC c x.1 x.2) 0 0)

/-- What the launch deals a device, before the devices exchange their duties; -/
def G (c : Dev nD) : sProp 𝕄 :=
  iprop((bigSep Finset.univ fun k : CK => roundState ER (Rd X Y) (kcell (c, k)) 0)
    ∗ (bigSep Finset.univ fun k : CK => iprop(atPos ER (kcell (c, k)) 0 ∅ 0 ∗ reached ER (kcell (c, k)) 0)) ∗ toks (F := F) c)

/-- every cell's invariant and that every cell has reached its first round; -/
def records : sProp 𝕄 :=
  iprop((bigSep Finset.univ fun ck : Dev nD × CK => cellInv ER (Rd X Y) (K ck) (kcell ck))
    ∗ bigSep Finset.univ fun ck : Dev nD × CK => reached ER (kcell ck) 0)
instance records_persistent : BI.Persistent (records X Y K) := by unfold records; infer_instance

/-- and what it is dealt after. -/
def G' (c : Dev nD) : sProp 𝕄 := iprop(∃ K, records X Y K ∗ linear (F := F) c)

theorem fund_ring : BI.own (ER (initOf ringCells ringToks)) ⊢ (|==> bigSep Finset.univ (G X Y) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_univ_sum, bigSep_univ_sum]; rfl
  iintro HX
  imod (Rounds.fund ER (Rd X Y) ringCells ringToks) $$ HX with ⟨Hst, Hr, Hat, Htok⟩
  imodintro
  ihave Hst' := (Entails.of_eq (hX fun g => roundState ER (Rd X Y) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G X Y c)
      ⊢ |={Set.univ}=> iprop((bigSep Finset.univ fun k : CK => iprop(∃ κ : ℕ, cellInv ER (Rd X Y) κ (kcell (c, k))))
          ∗ (bigSep Finset.univ fun k : CK => iprop(atPos ER (kcell (c, k)) 0 ∅ 0 ∗ reached ER (kcell (c, k)) 0)) ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CK => semVal (kcell (c, k)) 0) ∗ bigSep Finset.univ fun k : CK => roundState ER (Rd X Y) (kcell (c, k)) 0)
      ⊢ (|={Set.univ}=> bigSep Finset.univ fun k : CK => iprop(∃ κ : ℕ, cellInv ER (Rd X Y) κ (kcell (c, k))) : sProp 𝕄) from by
        rw [← bigSep_sep']
        exact (bigSep_mono fun k _ => (Rounds.body_intro ER (Rd X Y) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Exchanging a pair of devices is a bijection of the devices. -/
def swap (d : Fin 3) : Dev nD ≃ Dev nD := ⟨partner d, partner d, partner_partner d, partner_partner d⟩

/-- A family dealt device by device is dealt as well with each member exchanged along some axis. -/
theorem around {I : Type} [Fintype I] [DecidableEq I] (a : I → Fin 3) (Φ : I → Dev nD → sProp 𝕄) :
    (bigSep Finset.univ fun c : Dev nD => bigSep Finset.univ fun i => Φ i c)
      = bigSep Finset.univ fun c : Dev nD => bigSep Finset.univ fun i => Φ i (partner (a i) c) := by
  rw [BI.bigSep_univ_comm, BI.bigSep_univ_comm (fun (c : Dev nD) i => Φ i (partner (a i) c))]
  exact bigSep_congr fun i _ => bigSep_univ_equiv (swap (a i)) (Φ i)

theorem toks_around : (bigSep Finset.univ fun c : Dev nD => toks (F := F) c) = bigSep Finset.univ fun c : Dev nD => payToks (F := F) c := by
  unfold toks payToks
  rw [bigSep_sep', bigSep_sep', bigSep_sep', bigSep_sep', around (fun d => d) (fun d c => dutyTok ER (bC c) 0 d),
    around (fun x : Fin 3 × Fin 14 => dims x.1 (stg x.2)) (fun x c => dutyTok ER (vC c x.1 x.2) 0 0)]
  rfl

theorem regroup :
    (bigSep Finset.univ fun c : Dev nD => iprop((bigSep Finset.univ fun k : CK => iprop(∃ κ : ℕ, cellInv ER (Rd X Y) κ (kcell (c, k))))
          ∗ (bigSep Finset.univ fun k : CK => iprop(atPos ER (kcell (c, k)) 0 ∅ 0 ∗ reached ER (kcell (c, k)) 0)) ∗ toks (F := F) c))
      ⊢ bigSep Finset.univ (G' X Y) := by
  rw [bigSep_sep', bigSep_sep', ← bigSep_univ_prod (fun ck : Dev nD × CK => iprop(∃ κ : ℕ, cellInv ER (Rd X Y) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (Rd X Y) κ (kcell ck) : sProp 𝕄))) $$ HI
  icases HK with ⟨%K, #HI⟩
  iapply (bigSep_with_persistent (R := records X Y K) (Φ := fun c => linear (F := F) c) fun c _ => by
    unfold G'; iintro H; iexists K; iexact H)
  isplitr
  · unfold records; isplitl; · iexact HI
    iexact HR
  unfold linear
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G X Y c) : sProp 𝕄)
    ⊢ |={Set.univ}=> bigSep Finset.univ (G' X Y) :=
  ((bigSep_mono fun c _ => core_alloc X Y c).trans (bigSep_fupd _ _)).trans (BI.fupd_mono (regroup X Y))

end Cells

/-! ## The launch's credit -/

theorem bC_eq_iff {a b : Dev nD} : Iff (bC a = bC b) (a = b) := ⟨fun h => congrArg (fun g : GSem nD τ sig => g.1.1) h, fun h => h ▸ rfl⟩
theorem vC_eq_iff {a b : Dev nD} {x y : Fin 3 × Fin 14} : Iff (vC a x.1 x.2 = vC b y.1 y.2) (a = b ∧ x = y) :=
  ⟨fun h => by
    have e := kcell_injective (a₁ := (a, some (.inr x))) (a₂ := (b, some (.inr y))) h
    exact ⟨congrArg Prod.fst e, Sum.inr.inj (Option.some.inj (congrArg Prod.snd e))⟩,
   fun ⟨h, h'⟩ => by rw [h, h']⟩
theorem bC_ne_vC {a b : Dev nD} {x : Fin 3 × Fin 14} : bC a ≠ vC b x.1 x.2 := fun h => by
  have e := kcell_injective (a₁ := (a, none)) (a₂ := (b, some (.inr x))) h
  exact absurd (congrArg Prod.snd e) (fun h' => by cases h')

/-- What a device owes the barrier of another: nothing of its transfers; -/
theorem owedL_bar (d c : Dev nD) (l : List (Fin 3 × Fin 14)) : owedL d l (bC c) () = 0 := by
  by_contra h
  obtain ⟨x, -, e⟩ := owedL_pos (Nat.pos_of_ne_zero h)
  exact bC_ne_vC e

/-- and the arrival of a transfer, exactly if it is to issue it. -/
theorem owedL_arr (d c : Dev nD) (x : Fin 3 × Fin 14) (l : List (Fin 3 × Fin 14)) (hl : l.Nodup) :
    owedL d l (vC c x.1 x.2) () = if d = oth x.1 x.2 c ∧ x ∈ l then N x.1 else 0 := by
  induction l with
  | nil => rw [if_neg (fun h => by simp at h)]; rfl
  | cons y l ih =>
    have hy := List.nodup_cons.mp hl
    change (owedL d l + tallyAt (vC (oth y.1 y.2 d) y.1 y.2) () (N y.1)) (vC c x.1 x.2) () = _
    rw [Pi.add_apply, Finsupp.add_apply, ih hy.2, tallyAt_apply]
    have hsw : ∀ z : Fin 3 × Fin 14, Iff (c = oth z.1 z.2 d) (d = oth z.1 z.2 c) := fun z =>
      ⟨fun h => by rw [h, oth_oth], fun h => by rw [h, oth_oth]⟩
    by_cases hxy : x = y
    · subst hxy
      rw [if_neg (fun h => hy.1 h.2), Nat.zero_add]
      by_cases hd : d = oth x.1 x.2 c
      · rw [if_pos ⟨by rw [← (hsw x).mpr hd], rfl⟩, if_pos ⟨hd, List.mem_cons_self⟩]
      · rw [if_neg (fun h => hd ((hsw x).mp (vC_eq_iff.mp h.1).1)), if_neg (fun h => hd h.1)]
    · rw [if_neg (c := vC c x.1 x.2 = _ ∧ _) (fun h => hxy (vC_eq_iff.mp h.1).2), Nat.add_zero]
      simp only [List.mem_cons, hxy, false_or]

theorem order_nodup : order.Nodup := by decide
theorem order_all : ∀ x : Fin 3 × Fin 14, x ∈ order := by decide

theorem O₀_apply (d : Dev nD) (g : GSem nD τ sig) : O₀ d g () = owedL d order g () + (if g = bC (partner 2 d) then 1 else 0)
    + (if g = bC (partner 1 d) then 1 else 0) + (if g = bC (partner 0 d) then 1 else 0) := by
  unfold O₀ O₁ O₂ O₃
  simp only [Pi.add_apply, Finsupp.add_apply, tallyAt_apply, and_true]

theorem partner_eq_iff (k : Fin 3) {a b : Dev nD} : Iff (bC a = bC (partner k b)) (b = partner k a) :=
  bC_eq_iff.trans ⟨fun h => by rw [h, partner_partner], fun h => by rw [h, partner_partner]⟩

theorem launch_bar (c : Dev nD) :
    tallyOn (bC c) (launchCredit (Pipeline.owing O₀) 0 (bC c)) = (tallyAt (bC c) () 3 : CellTallies nD τ sig Unit) := by
  unfold tallyAt; refine congrArg _ (Finsupp.ext fun u => ?_); cases u
  rw [Pipeline.launchCredit_owing, Finsupp.single_eq_same, Finset.sum_congr rfl fun d _ => O₀_apply d (bC c)]
  simp only [owedL_bar, partner_eq_iff, Finset.sum_add_distrib, Finset.sum_ite_eq', Finset.mem_univ, if_true, Finset.sum_const_zero]

theorem launch_arr (c : Dev nD) (x : Fin 3 × Fin 14) :
    tallyOn (vC c x.1 x.2) (launchCredit (Pipeline.owing O₀) 0 (vC c x.1 x.2)) = (tallyAt (vC c x.1 x.2) () (N x.1) : CellTallies nD τ sig Unit) := by
  unfold tallyAt; refine congrArg _ (Finsupp.ext fun u => ?_); cases u
  rw [Pipeline.launchCredit_owing, Finsupp.single_eq_same, Finset.sum_congr rfl fun d _ => O₀_apply d (vC c x.1 x.2)]
  simp only [owedL_arr _ _ _ _ order_nodup, order_all, and_true, bC_ne_vC.symm, if_false, Nat.add_zero, Finset.sum_ite_eq', Finset.mem_univ, if_true]

theorem creds (c : Dev nD) : (Pipeline.launchCred O₀ c : sProp 𝕄) ⊢ owing1 (F := F) c := by
  unfold Pipeline.launchCred owing1
  refine (bigSep_subset (Finset.subset_univ (Finset.univ.map ⟨csem, fun k k' h => Option.some.inj (by rw [← dec_csem k, ← dec_csem k', h])⟩))).trans ?_
  rw [bigSep_map, by_kind]
  show iprop(cred (tallyOn (bC c) (launchCredit (Pipeline.owing O₀) 0 (bC c)))
      ∗ (bigSep Finset.univ fun x : Fin 3 × Fin 4 => cred (tallyOn (sC c x.1 x.2) (launchCredit (Pipeline.owing O₀) 0 (sC c x.1 x.2))))
      ∗ bigSep Finset.univ fun x : Fin 3 × Fin 14 => cred (tallyOn (vC c x.1 x.2) (launchCredit (Pipeline.owing O₀) 0 (vC c x.1 x.2)))) ⊢ _
  iintro ⟨Hb, -, Hv⟩
  isplitl [Hb]
  · rw [← launch_bar]; iexact Hb
  · rw [show (bigSep Finset.univ fun x : Fin 3 × Fin 14 => (cred (tallyAt (vC c x.1 x.2) () (N x.1)) : sProp 𝕄))
      = bigSep Finset.univ fun x : Fin 3 × Fin 14 => cred (tallyOn (vC c x.1 x.2) (launchCredit (Pipeline.owing O₀) 0 (vC c x.1 x.2)))
      from bigSep_congr fun x _ => by rw [launch_arr]]
    iexact Hv

end Cert.AllReduceProof

end
-- ==== Proof.AllReduce.Run.lean ====
/-
# The run

The body as the pipeline's one point, and the whole program on the eight devices: it ends, each
device's result array holding the finished blocks, its arguments as they were, every counter at zero.
-/
module

public import proofs.«01_k».proof.Proof.AllReduce.Launch
public import Idealize.ShloMosaic.Lib.Pipeline.CollectiveSegs

@[expose] public section

noncomputable section

namespace Cert.AllReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Run

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- A device's two factors, as staged. -/
def xA (c : Dev nD) : Vec F S1024x128 .f32 := (win0_0.blk (0 : Fin 1)).view.read (Elt F) (m ((c : Thread nD τ).loc main_arg0))
def yA (c : Dev nD) : Vec F S128x1024 .f32 := (win0_1.blk (0 : Fin 1)).view.read (Elt F) (m ((c : Thread nD τ).loc main_arg1))

def Φ₀ (c : Dev nD) : sProp 𝕄 := iprop(start (xA m) (yA m) c ∗ bigSep Finset.univ fun p => scr (F := F) c p)
def Φ₁ (c : Dev nD) : sProp 𝕄 :=
  iprop((bigSep Finset.univ fun p => scr (F := F) c p) ∗ bigSep Finset.univ fun k : CK => (semVal (kcell (c, k)) 0 : sProp 𝕄))

/-- The pipeline's data: what each staging buffer holds after the body, and what a device holds and owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => yA m c
    | ⟨2, _⟩ => RES (xA m) (yA m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-- The body's two factors are the arrays staged. -/
theorem before_x (c : Dev nD) (d) : (dats m ρ 0 c).before (0 : Fin 3) t0_0 d = xA m c := by
  unfold Dat.before; rw [if_pos (fetch0_0 t0_0)]; rfl
theorem before_y (c : Dev nD) (d) : (dats m ρ 0 c).before (1 : Fin 3) t0_0 d = yA m c := by
  unfold Dat.before; rw [if_pos (fetch0_1 t0_0)]; rfl

/-- What the point ends with. -/
def post (c : Dev nD) : sProp 𝕄 :=
  iprop(Φ₁ (F := F) c ∗ (dats m ρ 0 c).owesAt () t0_0.succ ∗ xO (xA m) c ∗ wO (yA m) c
    ∗ owns (Ix := Unit) (Name := ℕ) (U := UU) (Lvl := ℕ) (c : Thread nD τ) oM fullShare (RES (xA m) (yA m)))

def pre (c : Dev nD) : sProp 𝕄 :=
  iprop(Φ₀ m c ∗ (dats m ρ 0 c).owesAt () t0_0.castSucc ∗ (∃ d, owns (Ix := Unit) (Name := ℕ) (U := UU) (Lvl := ℕ) (c : Thread nD τ) xM fullShare ((dats m ρ 0 c).before (0 : Fin 3) t0_0 d))
    ∗ (∃ d, owns (Ix := Unit) (Name := ℕ) (U := UU) (Lvl := ℕ) (c : Thread nD τ) wM fullShare ((dats m ρ 0 c).before (1 : Fin 3) t0_0 d))
    ∗ (∃ d, owns (Ix := Unit) (Name := ℕ) (U := UU) (Lvl := ℕ) (c : Thread nD τ) oM fullShare ((dats m ρ 0 c).before (2 : Fin 3) t0_0 d)))

theorem sound_body (c : Dev nD) :
    pre m ρ c ⊢ WP c (cc0_body (F := F) xM (Memref.isWhole_whole _) wM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => post m ρ c) := by
  rw [cc0_body_eq_skeleton, body_flat]
  unfold WP
  rw [wp_deviceId]
  unfold pre Φ₀ start Dat.owesAt Pipeline.owesWithin
  simp only [before_x, before_y]
  iintro ⟨⟨⟨⟨%K, #HC, Hl⟩, Hc⟩, Hscr⟩, ⟨%W, %hW, HO⟩, ⟨%d0, Hx⟩, ⟨%d1, Hw⟩, ⟨%d2, Ho⟩⟩
  ihave Hg := (gh_intro (xA m) (yA m) K c) $$ [Hl Hc]
  · isplitr; · iexact HC
    isplitl [Hl] <;> iassumption
  iapply (flat_spec (xA m) (yA m) K c (fun _ => post m ρ c) W _) $$ [Hg Hscr HO Hx Hw Ho]
  · isplitr; · iexact HC
    isplitl [Hg]; · iexact Hg
    isplitl [Hscr]; · iexact Hscr
    isplitl [HO]; · iexact HO
    isplitl [Hx]; · iexact Hx
    isplitl [Hw]; · iexact Hw
    iexact Ho
  iintro ⟨Hat, He, Hx, Hw, HO⟩
  imod (ends_close (xA m) (yA m) K c) $$ [Hat He] with ⟨Hz, Hscr, Hblk⟩
  · isplitr; · iexact HC
    isplitl [Hat] <;> iassumption
  imodintro
  unfold post Φ₁ ow Dat.owesAt Pipeline.owesWithin
  icases HO with ⟨%W', HO⟩
  isplitl [Hscr Hz]
  · isplitl [Hscr] <;> iassumption
  isplitl [HO]
  · iexists W'
    isplitr; · ipureintro; exact fun _ _ => Or.inl trivial
    iexact HO
  isplitl [Hx]; · iexact Hx
  isplitl [Hw]; · iexact Hw
  iapply (out_join (xA m) (yA m) c)
  rw [bigSep_univ_prod]
  iexact Hblk

set_option maxRecDepth 100000 in
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  exact sound_body m ρ c

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xA m) (yA m) c)
      ⊢ |={Set.univ}=> iprop(start (xA m) (yA m) c ∗ emp) := by
  iintro ⟨-, #Hlev, Hcr, -, HG⟩
  ihave Hc := (creds (F := F) c) $$ Hcr
  imodintro
  unfold start G' records ctx
  icases HG with ⟨%K, ⟨#HI, #HR⟩, Hl⟩
  isplitl
  · isplitr [Hc]
    · iexists K
      isplitr
      · isplitr; · iexact HI
        isplitr; · iexact HR
        iexact Hlev
      iexact Hl
    iexact Hc
  · iempintro

theorem scratch_eq (c : Dev nD) : (Pipeline.scopedRest (Ix := Unit) (Name := ℕ) (U := UU) (Lvl := ℕ) (Val := Elt F) cfg0.spec c : sProp 𝕄)
    = bigSep Finset.univ fun p => scr (F := F) c p := by
  rw [scopedRest0_eq, bigSep_3]; rfl

theorem phi0_intro (c : Dev nD) :
    iprop(start (xA m) (yA m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁
  rw [sems0_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the arrays of the run hold at its end. -/
def finalA (c : Dev nD) (w : Fin cfg0.W) : Buf (Elt F) ((cfg0.win w).arr.view.loc (c : Thread nD τ)) := (dats m ρ 0 c).arrAt w cfg0.N

set_option maxRecDepth 100000 in
/-- From any memory with zero counters every weakly fair execution of the program on the eight devices ends, each
    device's arrays at the final contents and every counter at zero. -/
theorem run_arrays : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xA m) (yA m)) (G' := G' (xA m) (yA m)) (u₀ := u₀)
    (hu₀ := by
      unfold u₀
      iintro Hu
      ihave H := (ownU_pair _ _) $$ Hu
      icases H with ⟨HP, HX⟩
      imod (fund_ring (xA m) (yA m)) $$ HX with HG
      imodintro
      isplitl [HP] <;> iassumption)
    (hglob := glob (xA m) (yA m))
    (hA := fun _ _ => rfl) (hpf := fun _ k => k.elim0)
    (X := start (xA m) (yA m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_x (c : Dev nD) : finalA m ρ c (0 : Fin 3) = m ((c : Thread nD τ).loc main_arg0) := (dats (F := F) m ρ 0 c).arrAt_in (0 : Fin 3) rfl _
theorem finalA_y (c : Dev nD) : finalA m ρ c (1 : Fin 3) = m ((c : Thread nD τ).loc main_arg1) := (dats (F := F) m ρ 0 c).arrAt_in (1 : Fin 3) rfl _

/-- So: every execution ends with each device's arguments as they were, every counter at zero, and the result array
    at what the pipeline wrote back. -/
theorem run_main : θ_run defs (onTc (τ := τ) (main (F := F))) ⟨m, fun _ => 0, ρ⟩ (fun r =>
    (∀ c : Dev nD, r.2.mem ((c : Thread nD τ).loc main_v1) = finalA m ρ c (2 : Fin 3)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨h.1 c (2 : Fin 3), (h.1 c (0 : Fin 3)).trans (finalA_x m ρ c), (h.1 c (1 : Fin 3)).trans (finalA_y m ρ c)⟩, h.2⟩)
    (run_arrays m ρ)

end Run

end Cert.AllReduceProof

end
-- ==== Proof.AllReduce.Frames.lean ====
/-
# The frames

The kernel's run over any float values, read at the machine's words and at the extended reals; the
reference's run, which uses no semaphore.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.AllReduce.Run
public import Idealize.ShloMosaic.Adequacy
public import Idealize.ShloMosaic.Init

@[expose] public section

noncomputable section

namespace Cert.AllReduceProof

open Idealize.ShloMosaic Idealize.SL.Sem

set_option maxRecDepth 100000 in
/-- The kernel's body table and its reading's are the same text. -/
theorem bodies_same : (Cert.Kernel.defs₀ (F := Bits)) = (Cert.KernelIdeal.defs₀ (F := Bits)) := by
  unfold Cert.Kernel.defs₀ Cert.KernelIdeal.defs₀
  refine congrArg Defs.onTc (funext fun l => funext fun x => ?_)
  match l, x with
  | 0, (t, s) => rfl

set_option maxRecDepth 100000 in
theorem defs_same : (Cert.Kernel.defs (F := Bits)) = (Cert.KernelIdeal.defs (F := Bits)) :=
  congrArg (Pipeline.defs Cert.KernelIdeal.pcfgs) bodies_same

set_option maxRecDepth 100000 in
/-- The kernel ends from any memory, its arguments unchanged and every counter at zero. -/
theorem frame_kernel : Cert.quiescent_Kernel := by
  intro m ρ _
  rw [defs_same]
  exact (θ_run Cert.KernelIdeal.defs _ _).mono (fun _ h => ⟨fun c => (h.1 c).2, h.2⟩) (run_main (F := Bits) m ρ)

/-- So does its reading over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- So does the reference, over the extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.AllReduceProof

end
-- ==== Proof.AllReduce.Value.lean ====
/-
# The value

Over the extended reals: what the program leaves in a device's result array, read at an index, is the activation
of the whole matrix product there, and so is what the reference leaves.
-/
module

public import proofs.«01_k».proof.Proof.AllReduce.Run
public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.AllReduceProof

open Cert.KernelIdeal Cert.KernelIdeal.Gen
open Idealize.ShloMosaic
open Idealize.ShloMosaic.TcCoe
open Idealize.ShloMosaic.Pipeline
open scoped BigOperators

/-! ## The arrays the pipeline stages and writes back are whole -/

section Whole

variable {F : FTy → Type} [FloatOps F] (m : (ℓ : Loc nD τ sig) → Buf (Elt F) ℓ) (ρ : Dev nD → PrngReg)

theorem finalA_o (c : Dev nD) : finalA m ρ c (2 : Fin 3) = RES (xA m) (yA m) :=
  (dats (F := F) m ρ 0 c).arrAt_eq_of_after_last (2 : Fin 3) t0_0 (by decide +kernel) (RES (xA m) (yA m)) fun j => rfl

theorem xA_eq (c : Dev nD) : xA m c = m ((c : Thread nD τ).loc main_arg0) := by
  funext i
  unfold xA
  blk_simp
  refine congrArg (m _) (funext fun a => Fin.ext ?_)
  blk_simp
  exact Nat.add_eq_right.mpr (by revert a; decide)

theorem yA_eq (c : Dev nD) : yA m c = m ((c : Thread nD τ).loc main_arg1) := by
  funext i
  unfold yA
  blk_simp
  refine congrArg (m _) (funext fun a => Fin.ext ?_)
  blk_simp
  exact Nat.add_eq_right.mpr (by revert a; decide)

end Whole

/-! ## The stored values at an index -/

/-- The activation, in the kernel's association. -/
def act (y : EReal) : EReal :=
  Ideal.ofBits FTy.f32 0x3F000000#32 * y *
    (1 + Ideal.tanh (Ideal.ofBits FTy.f32 0x3F4C422A#32 * (y + Ideal.ofBits FTy.f32 0x3D372713#32 * y * y * y)))

theorem payAdd_at (p : Fin 3) (v w : Vec Ideal (T p) .f32) (j : (T p).Idx) :
    payAdd (F := Ideal) p v w j = (v j : EReal) + w j := by
  pointwise [payAdd]

theorem payGelu_at (p : Fin 3) (v w : Vec Ideal (T p) .f32) (j : (T p).Idx) :
    payGelu (F := Ideal) p v w j = act ((v j : EReal) + w j) := by
  fin_cases p <;> · pointwise [payGelu, act, k0_pay23, k0_pay24, k0_pay25, k0_pay26, k0_pay27, k0_pay28]

theorem payDot_at (p : Fin 3) (x : Vec Ideal S1024x128 .f32) (w : Vec Ideal (T p) .f32) (j : (TC p).Idx) :
    payDot (F := Ideal) p x w j = ∑ k : Fin 128, (x (ix2 (j 0) k) : EReal) * w (ix2 k (j 1)) := by
  fin_cases p <;> · pointwise [payDot, k0_pay1, k0_pay2, k0_pay3]

/-! ## The eight summands -/

/-- The devices whose products enter a block, in the order device `o` meets them. -/
def met (p : Fin 3) (o : Dev nD) : Fin 8 → Dev nD :=
  ![o, peer p 0 o, peer p 1 o, peer p 0 (peer p 1 o),
    peer p 2 o, peer p 0 (peer p 2 o), peer p 1 (peer p 2 o), peer p 0 (peer p 1 (peer p 2 o))]

theorem met_bijective (p : Fin 3) (o : Dev nD) : Function.Bijective (met p o) := by revert p o; decide +kernel

theorem sum_met {M : Type*} [AddCommMonoid M] (f : Dev nD → M) (p : Fin 3) (o : Dev nD) :
    f o + f (peer p 0 o) + (f (peer p 1 o) + f (peer p 0 (peer p 1 o)))
      + (f (peer p 2 o) + f (peer p 0 (peer p 2 o)) + (f (peer p 1 (peer p 2 o)) + f (peer p 0 (peer p 1 (peer p 2 o)))))
      = ∑ c, f c := by
  rw [← (met_bijective p o).sum_comp f, Fin.sum_univ_eight]
  simp only [add_assoc]
  rfl

section Result

variable (X : Dev nD → Vec Ideal S1024x128 .f32) (Y : Dev nD → Vec Ideal S128x1024 .f32)

/-- One device's share of the product at an index. -/
def share (i : S1024x1024.Idx) (c : Dev nD) : EReal := ∑ k : Fin 128, (X c (ix2 (i 0) k) : EReal) * Y c (ix2 k (i 1))

theorem A0_at (p : Fin 3) (c : Dev nD) (b : Fin 8) (y : (T p).Idx) :
    (A0 X Y p c b y : EReal) = share X Y ((rB (p, b)).emb y) c := by
  unfold A0 share
  rw [payDot_at]
  refine Finset.sum_congr rfl fun k _ => congrArg₂ (· * ·) (congrArg (X c) ?_) (congrArg (Y c) ?_)
  · funext a
    fin_cases a <;> rfl
  · funext a
    match a with
    | ⟨0, _⟩ => exact Fin.ext (show 0 + 1 * k.val = k.val by omega)
    | ⟨1, _⟩ => exact Fin.ext (show col0 p + 1 * (0 + 1 * (y 1).val) = col0 p + 1 * (y 1).val by omega)

theorem FF_at (p : Fin 3) (b : Fin 8) (y : (T p).Idx) :
    FF X Y p b y = act (∑ c, share X Y ((rB (p, b)).emb y) c) := by
  unfold FF A3
  rw [payGelu_at]
  unfold A2
  simp only [payAdd_at, A1, A0_at]
  rw [sum_met]

theorem RES_at (i : S1024x1024.Idx) : RES X Y i = act (∑ c, share X Y i c) := by
  obtain ⟨t, -, h⟩ := Finset.mem_biUnion.mp (show i ∈ (Finset.univ : Finset (Fin 3 × Fin 8)).biUnion (fun t => (rB t).set) from rB_cov ▸ Finset.mem_univ i)
  rw [← Rect.map_emb_univ] at h
  obtain ⟨y, -, rfl⟩ := Finset.mem_map.mp h
  exact (Rect.glue_emb rB rB_cov rB_disj (fun t => FF X Y t.1 t.2) t y).trans (FF_at X Y t.1 t.2 y)

/-- Where the devices' factors are the eight bands of two whole matrices, the shares add up to the whole product. -/
theorem sum_share (A B : Vec Ideal S1024x1024 .f32)
    (hX : ∀ c, X c = Layout.block ⟨2, ![1024, 128]⟩ ⟨2, ![1024, 1024]⟩ 1 8 c A)
    (hY : ∀ c, Y c = Layout.block ⟨2, ![128, 1024]⟩ ⟨2, ![1024, 1024]⟩ 0 8 c B) (i : S1024x1024.Idx) :
    ∑ c, share X Y i c = ∑ k : Fin 1024, (A (ix2 (i 0) k) : EReal) * B (ix2 k (i 1)) := by
  unfold share
  refine Fin.sum_mul_add_congr fun c k hl => ?_
  rw [hX, hY]
  refine congrArg₂ (· * ·) (congrArg A ?_) (congrArg B ?_)
  · funext a
    match a with
    | ⟨0, _⟩ => rfl
    | ⟨1, _⟩ => rfl
  · funext a
    match a with
    | ⟨0, _⟩ => rfl
    | ⟨1, _⟩ => rfl

end Result

end Cert.AllReduceProof

end
-- ==== Proof.AllReduce.Algebraic.lean ====
/-
# The kernel and the reference end with one value

Over the extended reals, the reference's result at an index is the activation of the whole product, cubed in
another association; products there commute and associate.
-/
module

public import proofs.«01_k».proof.Proof.AllReduce.Value
public import proofs.«01_k».proof.Proof.AllReduce.Frames

@[expose] public section

set_option maxRecDepth 16384

noncomputable section

namespace Cert.AllReduceProof

open Idealize.ShloMosaic Idealize.SL.Sem
open Idealize.ShloMosaic.TcCoe
open scoped BigOperators

/-- What the reference computes from two whole matrices. -/
def refTerm (A B : FVec Ideal Cert.ReferenceIdeal.S1024x1024 .f32) : FVec Ideal Cert.ReferenceIdeal.S1024x1024 .f32 :=
  open Cert.ReferenceIdeal Cert.ReferenceIdeal.Gen in
  let v := Host.dotGeneral dot_S1024x1024_S1024x1024_S1024x1024_1_0_0_1_n_n none A B
  let con (w : BitVec 32) : FVec Ideal S1024x1024 .f32 := broadcastInDim S1024x1024 ![] bcast_S_S1024x1024 (constant S_ .f32 w)
  mulf (mulf (con 0x3F000000#32) v)
    (addf (con 0x3F800000#32) (Host.tanh (mulf (con 0x3F4C422A#32) (addf v (mulf (con 0x3D372713#32) (mulf (mulf v v) v))))))

theorem refTerm_at (A B : FVec Ideal Cert.ReferenceIdeal.S1024x1024 .f32) (i : Cert.ReferenceIdeal.S1024x1024.Idx) :
    refTerm A B i = act (∑ k : Fin 1024, (A (ix2 (i 0) k) : EReal) * B (ix2 k (i 1))) := by
  pointwise [refTerm, act]
  simp only [mul_assoc]

theorem algebraic : Cert.algebraic_KernelIdeal_ReferenceIdeal := by
  intro m g m' g' _ h
  refine ⟨refTerm (m' ((0 : Dev Cert.ReferenceIdeal.nD).tc.loc Cert.ReferenceIdeal.main_arg0))
      (m' ((0 : Dev Cert.ReferenceIdeal.nD).tc.loc Cert.ReferenceIdeal.main_arg1)), ?_, ?_⟩
  · refine (θ_run Cert.KernelIdeal.defs _ _).mono (fun r hr c => ?_) (run_main (F := Ideal) m g)
    refine ⟨((hr.1 c).1.trans (finalA_o m g c)).trans (funext fun i => ?_), (hr.1 c).2⟩
    rw [RES_at]
    refine (congrArg act (sum_share _ _ _ _ (fun d => ?_) (fun d => ?_) i)).trans (refTerm_at _ _ i).symm
    · exact (xA_eq m d).trans (h d).1
    · exact (yA_eq m d).trans (h d).2
  · exact (θ_run Cert.ReferenceIdeal.defs _ _).mono (fun r hr => hr 0) (Cert.ReferenceIdeal.Value.run (F := Ideal) m' g')

end Cert.AllReduceProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.AllReduce.Frames
public import proofs.«01_k».proof.Proof.AllReduce.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.AllReduceProof.frame_kernel, Cert.AllReduceProof.frame_ideal,
  Cert.AllReduceProof.frame_reference, trivial, Cert.AllReduceProof.algebraic⟩

end Cert.Proof

end
